-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2064x1024 : Shape := ⟨3, ![8, 2064, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S2064x8x1024 : Shape := ⟨3, ![2064, 8, 1024]⟩
abbrev S16512x1024 : Shape := ⟨2, ![16512, 1024]⟩
abbrev S128x1024 : Shape := ⟨2, ![128, 1024]⟩
abbrev S_ : Shape := ⟨0, ![]⟩
abbrev S384x1024 : Shape := ⟨2, ![384, 1024]⟩
abbrev S16384x1024 : Shape := ⟨2, ![16384, 1024]⟩
abbrev S16896x1024 : Shape := ⟨2, ![16896, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x2048x1024 : Shape := ⟨3, ![8, 2048, 1024]⟩
abbrev S512x1024 : Shape := ⟨2, ![512, 1024]⟩
abbrev S8x64x1024 : Shape := ⟨3, ![8, 64, 1024]⟩
abbrev S16x5632 : Shape := ⟨2, ![16, 5632]⟩
abbrev S512x2816 : Shape := ⟨2, ![512, 2816]⟩
abbrev S8x64x5632 : Shape := ⟨3, ![8, 64, 5632]⟩
abbrev S8 : Shape := ⟨1, ![8]⟩
abbrev S1 : Shape := ⟨1, ![1]⟩
abbrev S1x64x5632 : Shape := ⟨3, ![1, 64, 5632]⟩
abbrev S64x5632 : Shape := ⟨2, ![64, 5632]⟩
abbrev S8x352x1024 : Shape := ⟨3, ![8, 352, 1024]⟩
abbrev S1x352x1024 : Shape := ⟨3, ![1, 352, 1024]⟩
abbrev S352x1024 : Shape := ⟨2, ![352, 1024]⟩
abbrev S128 : Shape := ⟨1, ![128]⟩
abbrev S128x1 : Shape := ⟨2, ![128, 1]⟩
abbrev S1024x256 : Shape := ⟨2, ![1024, 256]⟩
abbrev S128x256 : Shape := ⟨2, ![128, 256]⟩
abbrev S16x256 : Shape := ⟨2, ![16, 256]⟩
abbrev S144x256 : Shape := ⟨2, ![144, 256]⟩
abbrev S3x256 : Shape := ⟨2, ![3, 256]⟩
abbrev S1x256 : Shape := ⟨2, ![1, 256]⟩
abbrev S512 : Shape := ⟨1, ![512]⟩
abbrev S512x1 : Shape := ⟨2, ![512, 1]⟩
abbrev S64x8x1024 : Shape := ⟨3, ![64, 8, 1024]⟩
abbrev S512x256 : Shape := ⟨2, ![512, 256]⟩
abbrev S528x256 : Shape := ⟨2, ![528, 256]⟩

abbrev nBuf : Space → Nat
  | .hbm => 23
  | .vmem => 15
  | .smem => 0
  | _ => 0

abbrev bufTy : (tb : Table) → Fin (tcTables nBuf tb) → BufTy
  | .hbm, ⟨0, _⟩ => ⟨S8x2064x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1024, .f32⟩
  | .hbm, ⟨7, _⟩ => ⟨S2064x8x1024, .f32⟩
  | .hbm, ⟨8, _⟩ => ⟨S16512x1024, .f32⟩
  | .hbm, ⟨9, _⟩ => ⟨S128x1024, .f32⟩
  | .hbm, ⟨10, _⟩ => ⟨S_, .f32⟩
  | .hbm, ⟨11, _⟩ => ⟨S384x1024, .f32⟩
  | .hbm, ⟨12, _⟩ => ⟨S16384x1024, .f32⟩
  | .hbm, ⟨13, _⟩ => ⟨S16896x1024, .f32⟩
  | .hbm, ⟨14, _⟩ => ⟨S1024, .f32⟩
  | .hbm, ⟨15, _⟩ => ⟨S1x1024, .f32⟩
  | .hbm, ⟨16, _⟩ => ⟨S1024x5632, .f32⟩
  | .hbm, ⟨17, _⟩ => ⟨S3x5632, .f32⟩
  | .hbm, ⟨18, _⟩ => ⟨S5632, .f32⟩
  | .hbm, ⟨19, _⟩ => ⟨S1x5632, .f32⟩
  | .hbm, ⟨20, _⟩ => ⟨S2816x1024, .f32⟩
  | .hbm, ⟨21, _⟩ => ⟨S1x1024, .f32⟩
  | .hbm, ⟨22, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3x5632, .f32⟩
  | .local _ .vmem, ⟨4, _⟩ => ⟨S1x5632, .f32⟩
  | .local _ .vmem, ⟨5, _⟩ => ⟨S1x1024, .f32⟩
  | .local _ .vmem, ⟨6, _⟩ => ⟨S8x64x1024, .f32⟩
  | .local _ .vmem, ⟨7, _⟩ => ⟨S8x64x1024, .f32⟩
  | .local _ .vmem, ⟨8, _⟩ => ⟨S16x5632, .f32⟩
  | .local _ .vmem, ⟨9, _⟩ => ⟨S512x2816, .bf16⟩
  | .local _ .vmem, ⟨10, _⟩ => ⟨S512x1024, .f32⟩
  | .local _ .vmem, ⟨11, _⟩ => ⟨S1024x5632, .bf16⟩
  | .local _ .vmem, ⟨12, _⟩ => ⟨S2816x1024, .bf16⟩
  | .local _ .vmem, ⟨13, _⟩ => ⟨S8x64x5632, .f32⟩
  | .local _ .vmem, ⟨14, _⟩ => ⟨S8x352x1024, .f32⟩
  | _, _ => ⟨S8x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scoped0 : Ref sig .tc := ⟨.vmem, 13, rfl⟩
abbrev cc0_scoped2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![34], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c32_i32 : BitVec 32 := 32#32
  let v4 : BitVec 1 := Scalar.cmpi .sle arg0 c32_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c32_i32_3 : BitVec 32 := 32#32
  let v8 : BitVec 1 := Scalar.cmpi .sgt arg0 c32_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c32_i32 : BitVec 32 := 32#32
  let v0 : BitVec 32 := Scalar.minsi arg0 c32_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x2064x1024 : Shape := ⟨3, ![8, 2064, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S_ : Shape := ⟨0, ![]⟩
abbrev S8x2064 : Shape := ⟨2, ![8, 2064]⟩
abbrev S8x2064x1 : Shape := ⟨3, ![8, 2064, 1]⟩
abbrev S1x1x1024 : Shape := ⟨3, ![1, 1, 1024]⟩
abbrev S1024x5632 : Shape := ⟨2, ![1024, 5632]⟩
abbrev S8x2064x5632 : Shape := ⟨3, ![8, 2064, 5632]⟩
abbrev S3x5632 : Shape := ⟨2, ![3, 5632]⟩
abbrev S5632 : Shape := ⟨1, ![5632]⟩
abbrev S8x2066x5632 : Shape := ⟨3, ![8, 2066, 5632]⟩
abbrev S1x1x5632 : Shape := ⟨3, ![1, 1, 5632]⟩
abbrev S8x2064x2816 : Shape := ⟨3, ![8, 2064, 2816]⟩
abbrev S2816x1024 : Shape := ⟨2, ![2816, 1024]⟩
abbrev S8x2048x1024 : Shape := ⟨3, ![8, 2048, 1024]⟩

abbrev nBuf : Space → Nat
  | .hbm => 86
  | .vmem => 0
  | .smem => 0
  | _ => 0

abbrev bufTy : (tb : Table) → Fin (tcTables nBuf tb) → BufTy
  | .hbm, ⟨0, _⟩ => ⟨S8x2064x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1024, .f32⟩
  | .hbm, ⟨7, _⟩ => ⟨S1024, .f32⟩
  | .hbm, ⟨8, _⟩ => ⟨S8x2064x1024, .f32⟩
  | .hbm, ⟨9, _⟩ => ⟨S_, .f32⟩
  | .hbm, ⟨10, _⟩ => ⟨S8x2064, .f32⟩
  | .hbm, ⟨11, _⟩ => ⟨S8x2064x1, .f32⟩
  | .hbm, ⟨12, _⟩ => ⟨S_, .f32⟩
  | .hbm, ⟨13, _⟩ => ⟨S8x2064x1, .f32⟩
  | .hbm, ⟨14, _⟩ => ⟨S8x2064x1, .f32⟩
  | .hbm, ⟨15, _⟩ => ⟨S_, .f32⟩
  | .hbm, ⟨16, _⟩ => ⟨S8x2064x1, .f32⟩
  | .hbm, ⟨17, _⟩ => ⟨S8x2064x1, .f32⟩
  | .hbm, ⟨18, _⟩ => ⟨S8x2064x1, .f32⟩
  | .hbm, ⟨19, _⟩ => ⟨S8x2064x1024, .f32⟩
  | .hbm, ⟨20, _⟩ => ⟨S8x2064x1024, .f32⟩
  | .hbm, ⟨21, _⟩ => ⟨S1x1x1024, .f32⟩
  | .hbm, ⟨22, _⟩ => ⟨S8x2064x1024, .f32⟩
  | .hbm, ⟨23, _⟩ => ⟨S8x2064x1024, .f32⟩
  | .hbm, ⟨24, _⟩ => ⟨S1024x5632, .f32⟩
  | .hbm, ⟨25, _⟩ => ⟨S8x2064x5632, .f32⟩
  | .hbm, ⟨26, _⟩ => ⟨S3x5632, .f32⟩
  | .hbm, ⟨27, _⟩ => ⟨S5632, .f32⟩
  | .hbm, ⟨28, _⟩ => ⟨S_, .i32⟩
  | .hbm, ⟨29, _⟩ => ⟨S_, .f32⟩
  | .hbm, ⟨30, _⟩ => ⟨S8x2066x5632, .f32⟩
  | .hbm, ⟨31, _⟩ => ⟨S1x5632, .f32⟩
  | .hbm, ⟨32, _⟩ => ⟨S5632, .f32⟩
  | .hbm, ⟨33, _⟩ => ⟨S8x2064x5632, .f32⟩
  | .hbm, ⟨34, _⟩ => ⟨S1x1x5632, .f32⟩
  | .hbm, ⟨35, _⟩ => ⟨S8x2064x5632, .f32⟩
  | .hbm, ⟨36, _⟩ => ⟨S8x2064x5632, .f32⟩
  | .hbm, ⟨37, _⟩ => ⟨S1x5632, .f32⟩
  | .hbm, ⟨38, _⟩ => ⟨S5632, .f32⟩
  | .hbm, ⟨39, _⟩ => ⟨S8x2064x5632, .f32⟩
  | .hbm, ⟨40, _⟩ => ⟨S1x1x5632, .f32⟩
  | .hbm, ⟨41, _⟩ => ⟨S8x2064x5632, .f32⟩
  | .hbm, ⟨42, _⟩ => ⟨S8x2064x5632, .f32⟩
  | .hbm, ⟨43, _⟩ => ⟨S8x2064x5632, .f32⟩
  | .hbm, ⟨44, _⟩ => ⟨S1x5632, .f32⟩
  | .hbm, ⟨45, _⟩ => ⟨S5632, .f32⟩
  | .hbm, ⟨46, _⟩ => ⟨S8x2064x5632, .f32⟩
  | .hbm, ⟨47, _⟩ => ⟨S1x1x5632, .f32⟩
  | .hbm, ⟨48, _⟩ => ⟨S8x2064x5632, .f32⟩
  | .hbm, ⟨49, _⟩ => ⟨S8x2064x5632, .f32⟩
  | .hbm, ⟨50, _⟩ => ⟨S8x2064x5632, .f32⟩
  | .hbm, ⟨51, _⟩ => ⟨S1x1x5632, .f32⟩
  | .hbm, ⟨52, _⟩ => ⟨S8x2064x5632, .f32⟩
  | .hbm, ⟨53, _⟩ => ⟨S8x2064x5632, .f32⟩
  | .hbm, ⟨54, _⟩ => ⟨S8x2064x2816, .f32⟩
  | .hbm, ⟨55, _⟩ => ⟨S8x2064x2816, .f32⟩
  | .hbm, ⟨56, _⟩ => ⟨S8x2064x2816, .f32⟩
  | .hbm, ⟨57, _⟩ => ⟨S8x2064x2816, .f32⟩
  | .hbm, ⟨58, _⟩ => ⟨S_, .f32⟩
  | .hbm, ⟨59, _⟩ => ⟨S8x2064x2816, .f32⟩
  | .hbm, ⟨60, _⟩ => ⟨S8x2064x2816, .f32⟩
  | .hbm, ⟨61, _⟩ => ⟨S_, .f32⟩
  | .hbm, ⟨62, _⟩ => ⟨S8x2064x2816, .f32⟩
  | .hbm, ⟨63, _⟩ => ⟨S8x2064x2816, .f32⟩
  | .hbm, ⟨64, _⟩ => ⟨S8x2064x2816, .f32⟩
  | .hbm, ⟨65, _⟩ => ⟨S8x2064x2816, .f32⟩
  | .hbm, ⟨66, _⟩ => ⟨S2816x1024, .f32⟩
  | .hbm, ⟨67, _⟩ => ⟨S8x2064x1024, .f32⟩
  | .hbm, ⟨68, _⟩ => ⟨S8x2064x1024, .f32⟩
  | .hbm, ⟨69, _⟩ => ⟨S8x2064x1024, .f32⟩
  | .hbm, ⟨70, _⟩ => ⟨S_, .f32⟩
  | .hbm, ⟨71, _⟩ => ⟨S8x2064, .f32⟩
  | .hbm, ⟨72, _⟩ => ⟨S8x2064x1, .f32⟩
  | .hbm, ⟨73, _⟩ => ⟨S_, .f32⟩
  | .hbm, ⟨74, _⟩ => ⟨S8x2064x1, .f32⟩
  | .hbm, ⟨75, _⟩ => ⟨S8x2064x1, .f32⟩
  | .hbm, ⟨76, _⟩ => ⟨S_, .f32⟩
  | .hbm, ⟨77, _⟩ => ⟨S8x2064x1, .f32⟩
  | .hbm, ⟨78, _⟩ => ⟨S8x2064x1, .f32⟩
  | .hbm, ⟨79, _⟩ => ⟨S8x2064x1, .f32⟩
  | .hbm, ⟨80, _⟩ => ⟨S8x2064x1024, .f32⟩
  | .hbm, ⟨81, _⟩ => ⟨S8x2064x1024, .f32⟩
  | .hbm, ⟨82, _⟩ => ⟨S1x1x1024, .f32⟩
  | .hbm, ⟨83, _⟩ => ⟨S8x2064x1024, .f32⟩
  | .hbm, ⟨84, _⟩ => ⟨S8x2064x1024, .f32⟩
  | .hbm, ⟨85, _⟩ => ⟨S8x2048x1024, .f32⟩
  | _, _ => ⟨S8x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_2 : Ref sig .tc := ⟨.hbm, 70, rfl⟩
abbrev main_v50 : Ref sig .tc := ⟨.hbm, 71, rfl⟩
abbrev main_v51 : Ref sig .tc := ⟨.hbm, 72, rfl⟩
abbrev main_cst_3 : Ref sig .tc := ⟨.hbm, 73, rfl⟩
abbrev main_v52 : Ref sig .tc := ⟨.hbm, 74, rfl⟩
abbrev main_v53 : Ref sig .tc := ⟨.hbm, 75, rfl⟩
abbrev main_cst_4 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]
-- ==== Proof.Ffn.RunB.lean ====
/- The body at the grid points 1 to 32, run as a whole: what its stores leave in each buffer. -/
module

public import proofs.«01_k».proof.Proof.Gen.KernelIdeal.Frame.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 0 in
/-- What the body's stores leave in each output's staging memref, as pieces (last first) IN CASE B (`scf.if` 0 not taken, `scf.if` 1 taken, `scf.if` 2 not taken: points 1, 2, … 32: 32 of 34), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), a scratch it stored into and does not carry with its pieces (`LT·`) written over some contents, the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S3x5632 .f32) (harg4 : arg4.IsWhole) (arg5 : Memref sig .tc .vmem S1x5632 .f32) (harg5 : arg5.IsWhole) (arg7 : Memref sig .tc .vmem S1x1024 .f32) (harg7 : arg7.IsWhole) (arg8 : Memref sig .tc .vmem S8x64x1024 .f32) (harg8 : arg8.IsWhole) (arg9 : Memref sig .tc .vmem S16x5632 .f32) (harg9 : arg9.IsWhole) (arg10 : Memref sig .tc .vmem S512x2816 .bf16) (harg10 : arg10.IsWhole) (arg11 : Memref sig .tc .vmem S512x1024 .f32) (harg11 : arg11.IsWhole) (arg12 : Memref sig .tc .vmem S1024x5632 .bf16) (harg12 : arg12.IsWhole) (arg13 : Memref sig .tc .vmem S2816x1024 .bf16) (harg13 : arg13.IsWhole) (alloca_r0 : Memref sig .tc .vmem S8x64x5632 .f32) (halloca_r0 : alloca_r0.IsWhole) (alloca_r1 : Memref sig .tc .vmem S8x352x1024 .f32) (halloca_r1 : alloca_r1.IsWhole) (hc0 : ¬cond0_0 i) (hc1 : cond0_1 i) (hc2 : ¬cond0_2 i)
    (x0 : Vec F S512x1024 .f32) (x1 : Vec F S1x1024 .f32) (x2 : Vec F S3x5632 .f32) (x3 : Vec F S1x5632 .f32) (x4 : Vec F S1x1024 .f32) (xs0 : Vec F S16x5632 .f32) (xs2 : Vec F S512x1024 .f32) (xs3 : Vec F S1024x5632 .bf16) (xs4 : Vec F S2816x1024 .bf16) (fh0 : HbBuf0 (F := F) c hbM0_0) (fh1 : HbBuf0 (F := F) c hbM0_1) :
    Σ' (L5 : List (View.Piece (Elt F) S8x64x1024 .f32)), Σ' (LS0 : List (View.Piece (Elt F) S16x5632 .f32)), Σ' (LS2 : List (View.Piece (Elt F) S512x1024 .f32)), Σ' (LS3 : List (View.Piece (Elt F) S1024x5632 .bf16)), Σ' (LS4 : List (View.Piece (Elt F) S2816x1024 .bf16)), { LT1 : List (View.Piece (Elt F) S512x2816 .bf16) //
      ∀ (W : Waits sig Unit) (K : PUnit → sProp 𝕄),
        iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg7 fullShare x4 ∗ (∃ d, owns (c : Thread nD τ) arg8 fullShare d) ∗ owns (c : Thread nD τ) arg9 fullShare xs0 ∗ (∃ d, owns (c : Thread nD τ) arg10 fullShare d) ∗ owns (c : Thread nD τ) arg11 fullShare xs2 ∗ owns (c : Thread nD τ) arg12 fullShare xs3 ∗ owns (c : Thread nD τ) arg13 fullShare xs4 ∗ (∃ d, owns (c : Thread nD τ) alloca_r0 fullShare d) ∗ (∃ d, owns (c : Thread nD τ) alloca_r1 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LT1) ∗ (∃ f, arg11.view.loc (c : Thread nD τ) ↦[arg11.view.set]{fullShare} arg11.view.writes (Elt F) f LS2) ∗ owns (c : Thread nD τ) arg12 fullShare xs3 ∗ owns (c : Thread nD τ) arg13 fullShare xs4 ∗ (∃ d, owns (c : Thread nD τ) alloca_r0 fullShare d) ∗ (∃ d, owns (c : Thread nD τ) alloca_r1 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn i arg1 harg1 arg2 harg2 (Memref.whole main_v8) (Memref.isWhole_whole _) arg4 harg4 arg5 harg5 (Memref.whole main_v12) (Memref.isWhole_whole _) arg7 harg7 arg8 harg8 arg9 harg9 arg10 harg10 arg11 harg11 arg12 harg12 arg13 harg13 alloca_r0 halloca_r0 cc0_scoped1 alloca_r1 halloca_r1 cc0_scoped3) K } := by
  refine ⟨?_, ?_, ?_, [], [], ?_, fun W K => ?run⟩
  case run =>
    simp only [cc0_ffn_eq_skeleton]; unfold cc0_ffn_skel
    simp only [k0_part60_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, ⟨%fs2, %hfs2, HS2⟩, ⟨%fs3, %hfs3, HS3⟩, ⟨%fs4, %hfs4, HS4⟩, ⟨%ds5, %fs5, -, HS5⟩, ⟨%ds6, %fs6, -, HS6⟩, Hq0, Hq1, Hq2, Hq3, Hq4, Hq5, Hq6, Hq7, Hq8, Hq9, Hq10, Hq11, Hq12, Hq13, Hq14, Hq15, Hh0, Hh1, HW, Hk⟩
    obtain rfl := harg1.eq_unread hf0; obtain rfl := harg2.eq_unread hf1; obtain rfl := harg4.eq_unread hf2; obtain rfl := harg5.eq_unread hf3; obtain rfl := harg7.eq_unread hf4; obtain rfl := harg9.eq_unread hfs0; obtain rfl := harg11.eq_unread hfs2; obtain rfl := harg12.eq_unread hfs3; obtain rfl := harg13.eq_unread hfs4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    isplitl [HS2]; · iexists _; iexact HS2
    isplitl [HS3]
    · iexists _; isplitr; · ipureintro; exact harg12.read_unread _
      iexact HS3
    isplitl [HS4]
    · iexists _; isplitr; · ipureintro; exact harg13.read_unread _
      iexact HS4
    isplitl [HS5]
    · iexists _, _; isplitr; swap; · iexact HS5
      ipureintro; rfl
    isplitl [HS6]
    · iexists _, _; isplitr; swap; · iexact HS6
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    isplitl [Hh1]; · iexact Hh1
    iexists _; iexact HW

end Cert.KernelIdeal.Gen

end
-- ==== Proof.Ffn.RunC.lean ====
/- The body at the last grid point, run as a whole: what its stores leave in each buffer. -/
module

public import proofs.«01_k».proof.Proof.Ffn.RunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 0 in
/-- What the body's stores leave in each output's staging memref, as pieces (last first) IN CASE C (`scf.if` 0 not taken, `scf.if` 1 not taken, `scf.if` 2 taken: points 33), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S3x5632 .f32) (harg4 : arg4.IsWhole) (arg5 : Memref sig .tc .vmem S1x5632 .f32) (harg5 : arg5.IsWhole) (arg7 : Memref sig .tc .vmem S1x1024 .f32) (harg7 : arg7.IsWhole) (arg8 : Memref sig .tc .vmem S8x64x1024 .f32) (harg8 : arg8.IsWhole) (arg9 : Memref sig .tc .vmem S16x5632 .f32) (harg9 : arg9.IsWhole) (arg10 : Memref sig .tc .vmem S512x2816 .bf16) (harg10 : arg10.IsWhole) (arg11 : Memref sig .tc .vmem S512x1024 .f32) (harg11 : arg11.IsWhole) (arg12 : Memref sig .tc .vmem S1024x5632 .bf16) (harg12 : arg12.IsWhole) (arg13 : Memref sig .tc .vmem S2816x1024 .bf16) (harg13 : arg13.IsWhole) (alloca_r0 : Memref sig .tc .vmem S8x64x5632 .f32) (halloca_r0 : alloca_r0.IsWhole) (alloca_r1 : Memref sig .tc .vmem S8x352x1024 .f32) (halloca_r1 : alloca_r1.IsWhole) (hc0 : ¬cond0_0 i) (hc1 : ¬cond0_1 i) (hc2 : cond0_2 i)
    (x0 : Vec F S512x1024 .f32) (x1 : Vec F S1x1024 .f32) (x2 : Vec F S3x5632 .f32) (x3 : Vec F S1x5632 .f32) (x4 : Vec F S1x1024 .f32) (xs0 : Vec F S16x5632 .f32) (xs2 : Vec F S512x1024 .f32) (xs3 : Vec F S1024x5632 .bf16) (xs4 : Vec F S2816x1024 .bf16) (fh0 : HbBuf0 (F := F) c hbM0_0) (fh1 : HbBuf0 (F := F) c hbM0_1) :
    Σ' (L5 : List (View.Piece (Elt F) S8x64x1024 .f32)), Σ' (LS0 : List (View.Piece (Elt F) S16x5632 .f32)), Σ' (LS2 : List (View.Piece (Elt F) S512x1024 .f32)), Σ' (LS3 : List (View.Piece (Elt F) S1024x5632 .bf16)), Σ' (LS4 : List (View.Piece (Elt F) S2816x1024 .bf16)), { LT1 : List (View.Piece (Elt F) S512x2816 .bf16) //
      ∀ (W : Waits sig Unit) (K : PUnit → sProp 𝕄),
        iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg7 fullShare x4 ∗ (∃ d, owns (c : Thread nD τ) arg8 fullShare d) ∗ owns (c : Thread nD τ) arg9 fullShare xs0 ∗ (∃ d, owns (c : Thread nD τ) arg10 fullShare d) ∗ owns (c : Thread nD τ) arg11 fullShare xs2 ∗ owns (c : Thread nD τ) arg12 fullShare xs3 ∗ owns (c : Thread nD τ) arg13 fullShare xs4 ∗ (∃ d, owns (c : Thread nD τ) alloca_r0 fullShare d) ∗ (∃ d, owns (c : Thread nD τ) alloca_r1 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg7 fullShare x4 ∗ (∃ f, arg8.view.loc (c : Thread nD τ) ↦[arg8.view.set]{fullShare} arg8.view.writes (Elt F) f L5) ∗ owns (c : Thread nD τ) arg9 fullShare xs0 ∗ (∃ d, owns (c : Thread nD τ) arg10 fullShare d) ∗ owns (c : Thread nD τ) arg11 fullShare xs2 ∗ owns (c : Thread nD τ) arg12 fullShare xs3 ∗ owns (c : Thread nD τ) arg13 fullShare xs4 ∗ (∃ d, owns (c : Thread nD τ) alloca_r0 fullShare d) ∗ (∃ d, owns (c : Thread nD τ) alloca_r1 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn i arg1 harg1 arg2 harg2 (Memref.whole main_v8) (Memref.isWhole_whole _) arg4 harg4 arg5 harg5 (Memref.whole main_v12) (Memref.isWhole_whole _) arg7 harg7 arg8 harg8 arg9 harg9 arg10 harg10 arg11 harg11 arg12 harg12 arg13 harg13 alloca_r0 halloca_r0 cc0_scoped1 alloca_r1 halloca_r1 cc0_scoped3) K } := by
  refine ⟨?_, [], [], [], [], [], fun W K => ?run⟩
  case run =>
    simp only [cc0_ffn_eq_skeleton]; unfold cc0_ffn_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, ⟨%fs2, %hfs2, HS2⟩, ⟨%fs3, %hfs3, HS3⟩, ⟨%fs4, %hfs4, HS4⟩, ⟨%ds5, %fs5, -, HS5⟩, ⟨%ds6, %fs6, -, HS6⟩, Hq0, Hq1, Hq2, Hq3, Hq4, Hq5, Hq6, Hq7, Hq8, Hq9, Hq10, Hq11, Hq12, Hq13, Hq14, Hq15, Hh0, Hh1, HW, Hk⟩
    obtain rfl := harg1.eq_unread hf0; obtain rfl := harg2.eq_unread hf1; obtain rfl := harg4.eq_unread hf2; obtain rfl := harg5.eq_unread hf3; obtain rfl := harg7.eq_unread hf4; obtain rfl := harg9.eq_unread hfs0; obtain rfl := harg11.eq_unread hfs2; obtain rfl := harg12.eq_unread hfs3; obtain rfl := harg13.eq_unread hfs4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg7.read_unread _
      iexact H4
    isplitl [H5]; · iexists _; iexact H5
    isplitl [HS0]
    · iexists _; isplitr; · ipureintro; exact harg9.read_unread _
      iexact HS0
    isplitl [HS1]
    · iexists _, _; isplitr; swap; · iexact HS1
      ipureintro; rfl
    isplitl [HS2]
    · iexists _; isplitr; · ipureintro; exact harg11.read_unread _
      iexact HS2
    isplitl [HS3]
    · iexists _; isplitr; · ipureintro; exact harg12.read_unread _
      iexact HS3
    isplitl [HS4]
    · iexists _; isplitr; · ipureintro; exact harg13.read_unread _
      iexact HS4
    isplitl [HS5]
    · iexists _, _; isplitr; swap; · iexact HS5
      ipureintro; rfl
    isplitl [HS6]
    · iexists _, _; isplitr; swap; · iexact HS6
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    isplitl [Hh1]; · iexact Hh1
    iexists _; iexact HW

end Cert.KernelIdeal.Gen

end
-- ==== Proof.Ffn.Load.lean ====
/- The weights in the kernel's scratch: the first point copies each weight array from HBM in chunks, through the slots of a
   staging buffer, and stores every chunk cast to bf16. Here: what the two scratch arrays hold afterwards, and the reads of a
   staging slot the transfers into it and into the other slots leave. -/
module

public import proofs.«01_k».proof.Proof.Gen.KernelIdeal.Frame.Runs

@[expose] public section

set_option maxRecDepth 16384

noncomputable section

namespace Cert.KernelIdeal.Gen

open Idealize.ShloMosaic Idealize.ShloMosaic.TcCoe Idealize.ShloMosaic.Tactic

variable {F : FTy → Type} [FloatOps F]

/-- The up weights as the first point leaves them in scratch: the HBM array, cast to bf16. -/
def wUp (c : Dev nD) (fh0 : HbBuf0 (F := F) c hbM0_0) : Vec F S1024x5632 .bf16 :=
  truncf (F := F) .bf16 (hbM0_0.view.read (Elt F) fh0 : FVec F S1024x5632 .f32) bitsLt_bf16_f32

/-- The down weights as the first point leaves them in scratch: the HBM array, cast to bf16. -/
def wDown (c : Dev nD) (fh1 : HbBuf0 (F := F) c hbM0_1) : Vec F S2816x1024 .bf16 :=
  truncf (F := F) .bf16 (hbM0_1.view.read (Elt F) fh1 : FVec F S2816x1024 .f32) bitsLt_bf16_f32

section slots
variable {κ : Kind} {sp : Space} {s s' : Shape} {e : EltTy} (Val : EltTy → Type) (m : Memref sig κ sp s e)

/-- A slot reads what the last transfer into it brought. -/
theorem slot_hit (r : Rect s) (hr) (hq : r.shape.Squeezes s') (f : m.view.ty.Contents Val) (g : s'.Idx → Val e) (x : r.shape.Idx) :
    m.view.readAt Val r.toLoadRect (View.write Val ((m.slice r hr).squeeze s' hq).view f g Finset.univ) x
      = g ((Shape.reshapeEquiv hq.numel_eq).symm x) := by
  have h := View.write_reshape_univ (v := (m.slice r hr).view) hq.numel_eq f g
  refine (congrArg (fun z => m.view.readAt Val r.toLoadRect z x) h).trans ?_
  exact View.read_writes_cons_emb (v := m.view) (f := f) r _ [] x

/-- A slot reads the same after a transfer into another slot. -/
theorem slot_miss (r r' : Rect s) (hr') (hq : r'.shape.Squeezes s') (f : m.view.ty.Contents Val) (g : s'.Idx → Val e)
    (hd : ∀ x, r.emb x ∉ r'.set) (x : r.shape.Idx) :
    m.view.readAt Val r.toLoadRect (View.write Val ((m.slice r' hr').squeeze s' hq).view f g Finset.univ) x
      = m.view.readAt Val r.toLoadRect f x := by
  have h := View.write_reshape_univ (v := (m.slice r' hr').view) hq.numel_eq f g
  refine (congrArg (fun z => m.view.readAt Val r.toLoadRect z x) h).trans ?_
  refine View.read_writes_apply_of_forall_not_mem (v := m.view) (f := f) (r.emb x) [⟨r', _⟩] ?_
  simpa using hd x
end slots

/-- Two slots of a staging buffer, the `k`-th and the `j`-th, have no element in common. -/
theorem slots_ne {n a b : ℕ} (k j : ℕ) (h : k ≠ j) (hk) (hj)
    (x : (Rect.unit (s := ⟨3, ![n, a, b]⟩) ![k, 0, 0] ![1, a, b] hk).shape.Idx) :
    (Rect.unit (s := ⟨3, ![n, a, b]⟩) ![k, 0, 0] ![1, a, b] hk).emb x
      ∉ (Rect.unit (s := ⟨3, ![n, a, b]⟩) ![j, 0, 0] ![1, a, b] hj).set := by
  intro hx
  have h1 := (Rect.mem_set_unit.mp hx) 0
  have hm : (Rect.unit (s := ⟨3, ![n, a, b]⟩) ![k, 0, 0] ![1, a, b] hk).emb x
      ∈ (Rect.unit (s := ⟨3, ![n, a, b]⟩) ![k, 0, 0] ![1, a, b] hk).set := by
    rw [← Rect.map_emb_univ]; exact Finset.mem_map_of_mem _ (Finset.mem_univ x)
  have h2 := (Rect.mem_set_unit.mp hm) 0
  simp only [Matrix.cons_val_zero] at h1 h2
  omega

/-- A chunk of the up weights: rows of the HBM array from row `o` on, cast to bf16, are those rows of `wUp`. -/
theorem piece_up (c : Dev nD) (fh0 : HbBuf0 (F := F) c hbM0_0) (o : Fin 2 → ℕ) (ho : ∀ a, o a + S64x5632.size a ≤ S1024x5632.size a)
    (v : Vec F S1x64x5632 .f32) (hv : ∀ x, v x = hbM0_0.view.read (Elt F) fh0 ((Rect.unit (s := S1024x5632) o S64x5632.size ho).emb ((Shape.reshapeEquiv squeezes_S1x64x5632_S64x5632.numel_eq).symm x)))
    (z : S64x5632.Idx) :
    k0_pay20 v z = wUp c fh0 ((Rect.unit (s := S1024x5632) o S64x5632.size ho).emb z) := by
  unfold k0_pay20
  simp only [shapeCast, truncf, wUp, hv, Shape.reshapeEquiv_self]
  simp only [Equiv.symm_apply_apply]

/-- A chunk of the down weights, likewise. -/
theorem piece_down (c : Dev nD) (fh1 : HbBuf0 (F := F) c hbM0_1) (o : Fin 2 → ℕ) (ho : ∀ a, o a + S352x1024.size a ≤ S2816x1024.size a)
    (v : Vec F S1x352x1024 .f32) (hv : ∀ x, v x = hbM0_1.view.read (Elt F) fh1 ((Rect.unit (s := S2816x1024) o S352x1024.size ho).emb ((Shape.reshapeEquiv squeezes_S1x352x1024_S352x1024.numel_eq).symm x)))
    (z : S352x1024.Idx) :
    k0_pay21 v z = wDown c fh1 ((Rect.unit (s := S2816x1024) o S352x1024.size ho).emb z) := by
  unfold k0_pay21
  simp only [shapeCast, truncf, wDown, hv, Shape.reshapeEquiv_self]
  simp only [Equiv.symm_apply_apply]

end Cert.KernelIdeal.Gen
-- ==== Proof.Ffn.RunA.lean ====
/- The body at the first grid point, run as a whole: the weights loaded, then the meta positions' rows. The run stops
   after the loads, says what the two weight arrays hold, and goes on with that. -/
module

public import proofs.«01_k».proof.Proof.Ffn.RunC
public import proofs.«01_k».proof.Proof.Ffn.Load

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 0 in set_option sl_exec.dmaWindow true in set_option sl_exec.dmaWindowSet true in
/-- What the body's stores leave in each output's staging memref, as pieces (last first) IN CASE A (`scf.if` 0 taken, `scf.if` 1 not taken, `scf.if` 2 not taken: points 0), WITH the
    proof that on whole staging memrefs — the inputs' at their contents, the outputs it leaves idle (5: no store, the window idle and not written back at the case's points) at contents `xi·` handed back untouched, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S3x5632 .f32) (harg4 : arg4.IsWhole) (arg5 : Memref sig .tc .vmem S1x5632 .f32) (harg5 : arg5.IsWhole) (arg7 : Memref sig .tc .vmem S1x1024 .f32) (harg7 : arg7.IsWhole) (arg8 : Memref sig .tc .vmem S8x64x1024 .f32) (harg8 : arg8.IsWhole) (arg9 : Memref sig .tc .vmem S16x5632 .f32) (harg9 : arg9.IsWhole) (arg10 : Memref sig .tc .vmem S512x2816 .bf16) (harg10 : arg10.IsWhole) (arg11 : Memref sig .tc .vmem S512x1024 .f32) (harg11 : arg11.IsWhole) (arg12 : Memref sig .tc .vmem S1024x5632 .bf16) (harg12 : arg12.IsWhole) (arg13 : Memref sig .tc .vmem S2816x1024 .bf16) (harg13 : arg13.IsWhole) (alloca_r0 : Memref sig .tc .vmem S8x64x5632 .f32) (halloca_r0 : alloca_r0.IsWhole) (alloca_r1 : Memref sig .tc .vmem S8x352x1024 .f32) (halloca_r1 : alloca_r1.IsWhole) (hc0 : cond0_0 i) (hc1 : ¬cond0_1 i) (hc2 : ¬cond0_2 i)
    (x0 : Vec F S512x1024 .f32) (x1 : Vec F S1x1024 .f32) (x2 : Vec F S3x5632 .f32) (x3 : Vec F S1x5632 .f32) (x4 : Vec F S1x1024 .f32) (fh0 : HbBuf0 (F := F) c hbM0_0) (fh1 : HbBuf0 (F := F) c hbM0_1) :
    Σ' (L5 : List (View.Piece (Elt F) S8x64x1024 .f32)), Σ' (LS0 : List (View.Piece (Elt F) S16x5632 .f32)), Σ' (LS2 : List (View.Piece (Elt F) S512x1024 .f32)), Σ' (LS3 : List (View.Piece (Elt F) S1024x5632 .bf16)), Σ' (LS4 : List (View.Piece (Elt F) S2816x1024 .bf16)), { LT1 : List (View.Piece (Elt F) S512x2816 .bf16) //
      ∀ (xi5 : Vec F S8x64x1024 .f32) (W : Waits sig Unit) (K : PUnit → sProp 𝕄),
        iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) alloca_r0 fullShare d) ∗ (∃ d, owns (c : Thread nD τ) alloca_r1 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ d, owns (c : Thread nD τ) arg10 fullShare d) ∗ (∃ f, arg11.view.loc (c : Thread nD τ) ↦[arg11.view.set]{fullShare} arg11.view.writes (Elt F) f LS2) ∗ owns (c : Thread nD τ) arg12 fullShare (wUp c fh0) ∗ owns (c : Thread nD τ) arg13 fullShare (wDown c fh1) ∗ (∃ d, owns (c : Thread nD τ) alloca_r0 fullShare d) ∗ (∃ d, owns (c : Thread nD τ) alloca_r1 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn i arg1 harg1 arg2 harg2 (Memref.whole main_v8) (Memref.isWhole_whole _) arg4 harg4 arg5 harg5 (Memref.whole main_v12) (Memref.isWhole_whole _) arg7 harg7 arg8 harg8 arg9 harg9 arg10 harg10 arg11 harg11 arg12 harg12 arg13 harg13 alloca_r0 halloca_r0 cc0_scoped1 alloca_r1 halloca_r1 cc0_scoped3) K } := by
  refine ⟨[], ?_, ?_, [], [], [], fun xi5 W K => ?run⟩
  case run =>
    simp only [cc0_ffn_eq_skeleton]; unfold cc0_ffn_skel
    simp only [k0_part37_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hq0, Hq1, Hq2, Hq3, Hq4, Hq5, Hq6, Hq7, Hq8, Hq9, Hq10, Hq11, Hq12, Hq13, Hq14, Hq15, Hh0, Hh1, HW, Hk⟩
    obtain rfl := harg1.eq_unread hf0; obtain rfl := harg2.eq_unread hf1; obtain rfl := harg4.eq_unread hf2; obtain rfl := harg5.eq_unread hf3; obtain rfl := harg7.eq_unread hf4; obtain rfl := harg8.eq_unread hf5
    (set_option sl_exec.stopBefore "k0_part16" in sl_exec (disch := first | sl_exact hc0 | sl_exact hc1 | sl_exact hc2))
    ihave HT3 : owns (c : Thread nD τ) arg12 fullShare (wUp c fh0) $$ [HS3]
    · unfold owns
      iexists _; isplitr; swap; · iexact HS3
      ipureintro
      funext y
      refine View.read_writes_apply_of_pieces (v := arg12.view) (f := fs3) (wUp c fh0) _ ?_ y (View.cover_of_tiledL (s := S1024x5632) _ S64x5632.size (by sl_kernel_rfl) y)
      repeat' (first | exact List.forall_mem_nil _ | refine List.forall_mem_cons.mpr ⟨?_, ?_⟩)
      all_goals
        intro z
        refine piece_up c fh0 _ (by decide) _ (fun x => ?_) z
        try sl_unfold_words
        repeat (first | (refine (slot_miss (Elt F) alloca_r0 _ _ _ _ _ _ ?hd _).trans ?_; (case hd => exact slots_ne _ _ (by decide) _ _)) | exact slot_hit (Elt F) alloca_r0 _ _ _ _ _ _)
    ihave HT4 : owns (c : Thread nD τ) arg13 fullShare (wDown c fh1) $$ [HS4]
    · unfold owns
      iexists _; isplitr; swap; · iexact HS4
      ipureintro
      funext y
      refine View.read_writes_apply_of_pieces (v := arg13.view) (f := fs4) (wDown c fh1) _ ?_ y (View.cover_of_tiledL (s := S2816x1024) _ S352x1024.size (by sl_kernel_rfl) y)
      repeat' (first | exact List.forall_mem_nil _ | refine List.forall_mem_cons.mpr ⟨?_, ?_⟩)
      all_goals
        intro z
        refine piece_down c fh1 _ (by decide) _ (fun x => ?_) z
        try sl_unfold_words
        repeat (first | (refine (slot_miss (Elt F) alloca_r1 _ _ _ _ _ _ ?hd _).trans ?_; (case hd => exact slots_ne _ _ (by decide) _ _)) | exact slot_hit (Elt F) alloca_r1 _ _ _ _ _ _)
    unfold owns
    icases HT3 with ⟨%fs3', %hfs3, HS3⟩
    icases HT4 with ⟨%fs4', %hfs4, HS4⟩
    obtain rfl := harg12.eq_unread hfs3; obtain rfl := harg13.eq_unread hfs4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]
    · iexists _, _; isplitr; swap; · iexact HS1
      ipureintro; rfl
    isplitl [HS2]; · iexists _; iexact HS2
    isplitl [HS3]
    · iexists _; isplitr; · ipureintro; exact harg12.read_unread _
      iexact HS3
    isplitl [HS4]
    · iexists _; isplitr; · ipureintro; exact harg13.read_unread _
      iexact HS4
    isplitl [HS5]
    · iexists _, _; isplitr; swap; · iexact HS5
      ipureintro; rfl
    isplitl [HS6]
    · iexists _, _; isplitr; swap; · iexact HS6
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    isplitl [Hh1]; · iexact Hh1
    iexists _; iexact HW

end Cert.KernelIdeal.Gen

end
-- ==== Proof.Ffn.OutsA.lean ====
/- What the body leaves in its output block and in the carried buffers at the first grid point. -/
module

public import proofs.«01_k».proof.Proof.Ffn.RunA
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A stores nothing into output 5 (the window is idle at its points and not written back there):
    no pieces — a placeholder (junk read back) that nothing consults, since at these points the window is neither
    written back nor read at the next point (Lib/Pipeline.lean "Idle points"). -/
def out0_A_5 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S3x5632 .f32) (harg4 : arg4.IsWhole) (arg5 : Memref sig .tc .vmem S1x5632 .f32) (harg5 : arg5.IsWhole) (arg7 : Memref sig .tc .vmem S1x1024 .f32) (harg7 : arg7.IsWhole) (arg8 : Memref sig .tc .vmem S8x64x1024 .f32) (harg8 : arg8.IsWhole) (arg9 : Memref sig .tc .vmem S16x5632 .f32) (harg9 : arg9.IsWhole) (arg10 : Memref sig .tc .vmem S512x2816 .bf16) (harg10 : arg10.IsWhole) (arg11 : Memref sig .tc .vmem S512x1024 .f32) (harg11 : arg11.IsWhole) (arg12 : Memref sig .tc .vmem S1024x5632 .bf16) (harg12 : arg12.IsWhole) (arg13 : Memref sig .tc .vmem S2816x1024 .bf16) (harg13 : arg13.IsWhole) (alloca_r0 : Memref sig .tc .vmem S8x64x5632 .f32) (halloca_r0 : alloca_r0.IsWhole) (alloca_r1 : Memref sig .tc .vmem S8x352x1024 .f32) (halloca_r1 : alloca_r1.IsWhole) (hc0 : cond0_0 i) (hc1 : ¬cond0_1 i) (hc2 : ¬cond0_2 i)
    (x0 : Vec F S512x1024 .f32) (x1 : Vec F S1x1024 .f32) (x2 : Vec F S3x5632 .f32) (x3 : Vec F S1x5632 .f32) (x4 : Vec F S1x1024 .f32) (fh0 : HbBuf0 (F := F) c hbM0_0) (fh1 : HbBuf0 (F := F) c hbM0_1) : Vec F S8x64x1024 .f32 :=
  VO0_5.read (Elt F) (VO0_5.writes (Elt F) VO0_5.junk (kernelRun0_A c i arg1 harg1 arg2 harg2 arg4 harg4 arg5 harg5 arg7 harg7 arg8 harg8 arg9 harg9 arg10 harg10 arg11 harg11 arg12 harg12 arg13 harg13 alloca_r0 halloca_r0 alloca_r1 halloca_r1 hc0 hc1 hc2 x0 x1 x2 x3 x4 fh0 fh1).1)

/-- Case A's pieces for scratch `arg9`, which the kernel carries between points, cover it: one of them a store of the WHOLE buffer (Lib/Ring.lean `sl_whole_mem`). -/
theorem scover0_A_0 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S3x5632 .f32) (harg4 : arg4.IsWhole) (arg5 : Memref sig .tc .vmem S1x5632 .f32) (harg5 : arg5.IsWhole) (arg7 : Memref sig .tc .vmem S1x1024 .f32) (harg7 : arg7.IsWhole) (arg8 : Memref sig .tc .vmem S8x64x1024 .f32) (harg8 : arg8.IsWhole) (arg9 : Memref sig .tc .vmem S16x5632 .f32) (harg9 : arg9.IsWhole) (arg10 : Memref sig .tc .vmem S512x2816 .bf16) (harg10 : arg10.IsWhole) (arg11 : Memref sig .tc .vmem S512x1024 .f32) (harg11 : arg11.IsWhole) (arg12 : Memref sig .tc .vmem S1024x5632 .bf16) (harg12 : arg12.IsWhole) (arg13 : Memref sig .tc .vmem S2816x1024 .bf16) (harg13 : arg13.IsWhole) (alloca_r0 : Memref sig .tc .vmem S8x64x5632 .f32) (halloca_r0 : alloca_r0.IsWhole) (alloca_r1 : Memref sig .tc .vmem S8x352x1024 .f32) (halloca_r1 : alloca_r1.IsWhole) (hc0 : cond0_0 i) (hc1 : ¬cond0_1 i) (hc2 : ¬cond0_2 i)
    (x0 : Vec F S512x1024 .f32) (x1 : Vec F S1x1024 .f32) (x2 : Vec F S3x5632 .f32) (x3 : Vec F S1x5632 .f32) (x4 : Vec F S1x1024 .f32) (fh0 : HbBuf0 (F := F) c hbM0_0) (fh1 : HbBuf0 (F := F) c hbM0_1) (y : S16x5632.Idx) :
    ∃ pc ∈ (kernelRun0_A c i arg1 harg1 arg2 harg2 arg4 harg4 arg5 harg5 arg7 harg7 arg8 harg8 arg9 harg9 arg10 harg10 arg11 harg11 arg12 harg12 arg13 harg13 alloca_r0 halloca_r0 alloca_r1 halloca_r1 hc0 hc1 hc2 x0 x1 x2 x3 x4 fh0 fh1).2.1, y ∈ pc.1.set :=
  View.cover_of_wholeMem (kernelRun0_A c i arg1 harg1 arg2 harg2 arg4 harg4 arg5 harg5 arg7 harg7 arg8 harg8 arg9 harg9 arg10 harg10 arg11 harg11 arg12 harg12 arg13 harg13 alloca_r0 halloca_r0 alloca_r1 halloca_r1 hc0 hc1 hc2 x0 x1 x2 x3 x4 fh0 fh1).2.1 (by sl_whole_mem) y

/-- What case A leaves in scratch `arg9`: its pieces read back over junk. -/
def sout0_A_0 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S3x5632 .f32) (harg4 : arg4.IsWhole) (arg5 : Memref sig .tc .vmem S1x5632 .f32) (harg5 : arg5.IsWhole) (arg7 : Memref sig .tc .vmem S1x1024 .f32) (harg7 : arg7.IsWhole) (arg8 : Memref sig .tc .vmem S8x64x1024 .f32) (harg8 : arg8.IsWhole) (arg9 : Memref sig .tc .vmem S16x5632 .f32) (harg9 : arg9.IsWhole) (arg10 : Memref sig .tc .vmem S512x2816 .bf16) (harg10 : arg10.IsWhole) (arg11 : Memref sig .tc .vmem S512x1024 .f32) (harg11 : arg11.IsWhole) (arg12 : Memref sig .tc .vmem S1024x5632 .bf16) (harg12 : arg12.IsWhole) (arg13 : Memref sig .tc .vmem S2816x1024 .bf16) (harg13 : arg13.IsWhole) (alloca_r0 : Memref sig .tc .vmem S8x64x5632 .f32) (halloca_r0 : alloca_r0.IsWhole) (alloca_r1 : Memref sig .tc .vmem S8x352x1024 .f32) (halloca_r1 : alloca_r1.IsWhole) (hc0 : cond0_0 i) (hc1 : ¬cond0_1 i) (hc2 : ¬cond0_2 i)
    (x0 : Vec F S512x1024 .f32) (x1 : Vec F S1x1024 .f32) (x2 : Vec F S3x5632 .f32) (x3 : Vec F S1x5632 .f32) (x4 : Vec F S1x1024 .f32) (fh0 : HbBuf0 (F := F) c hbM0_0) (fh1 : HbBuf0 (F := F) c hbM0_1) : Vec F S16x5632 .f32 :=
  VS0_0.read (Elt F) (VS0_0.writes (Elt F) VS0_0.junk (kernelRun0_A c i arg1 harg1 arg2 harg2 arg4 harg4 arg5 harg5 arg7 harg7 arg8 harg8 arg9 harg9 arg10 harg10 arg11 harg11 arg12 harg12 arg13 harg13 alloca_r0 halloca_r0 alloca_r1 halloca_r1 hc0 hc1 hc2 x0 x1 x2 x3 x4 fh0 fh1).2.1)

/-- Case A's pieces for scratch `arg11`, which the kernel carries between points, cover it: 1 piece of `S512x1024` tiling it (Lib/Ring.lean `Piece.tiledL`). -/
theorem scover0_A_2 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S3x5632 .f32) (harg4 : arg4.IsWhole) (arg5 : Memref sig .tc .vmem S1x5632 .f32) (harg5 : arg5.IsWhole) (arg7 : Memref sig .tc .vmem S1x1024 .f32) (harg7 : arg7.IsWhole) (arg8 : Memref sig .tc .vmem S8x64x1024 .f32) (harg8 : arg8.IsWhole) (arg9 : Memref sig .tc .vmem S16x5632 .f32) (harg9 : arg9.IsWhole) (arg10 : Memref sig .tc .vmem S512x2816 .bf16) (harg10 : arg10.IsWhole) (arg11 : Memref sig .tc .vmem S512x1024 .f32) (harg11 : arg11.IsWhole) (arg12 : Memref sig .tc .vmem S1024x5632 .bf16) (harg12 : arg12.IsWhole) (arg13 : Memref sig .tc .vmem S2816x1024 .bf16) (harg13 : arg13.IsWhole) (alloca_r0 : Memref sig .tc .vmem S8x64x5632 .f32) (halloca_r0 : alloca_r0.IsWhole) (alloca_r1 : Memref sig .tc .vmem S8x352x1024 .f32) (halloca_r1 : alloca_r1.IsWhole) (hc0 : cond0_0 i) (hc1 : ¬cond0_1 i) (hc2 : ¬cond0_2 i)
    (x0 : Vec F S512x1024 .f32) (x1 : Vec F S1x1024 .f32) (x2 : Vec F S3x5632 .f32) (x3 : Vec F S1x5632 .f32) (x4 : Vec F S1x1024 .f32) (fh0 : HbBuf0 (F := F) c hbM0_0) (fh1 : HbBuf0 (F := F) c hbM0_1) (y : S512x1024.Idx) :
    ∃ pc ∈ (kernelRun0_A c i arg1 harg1 arg2 harg2 arg4 harg4 arg5 harg5 arg7 harg7 arg8 harg8 arg9 harg9 arg10 harg10 arg11 harg11 arg12 harg12 arg13 harg13 alloca_r0 halloca_r0 alloca_r1 halloca_r1 hc0 hc1 hc2 x0 x1 x2 x3 x4 fh0 fh1).2.2.1, y ∈ pc.1.set :=
  View.cover_of_tiledL (kernelRun0_A c i arg1 harg1 arg2 harg2 arg4 harg4 arg5 harg5 arg7 harg7 arg8 harg8 arg9 harg9 arg10 harg10 arg11 harg11 arg12 harg12 arg13 harg13 alloca_r0 halloca_r0 alloca_r1 halloca_r1 hc0 hc1 hc2 x0 x1 x2 x3 x4 fh0 fh1).2.2.1 S512x1024.size (by sl_kernel_rfl) y

/-- What case A leaves in scratch `arg11`: its pieces read back over junk. -/
def sout0_A_2 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S3x5632 .f32) (harg4 : arg4.IsWhole) (arg5 : Memref sig .tc .vmem S1x5632 .f32) (harg5 : arg5.IsWhole) (arg7 : Memref sig .tc .vmem S1x1024 .f32) (harg7 : arg7.IsWhole) (arg8 : Memref sig .tc .vmem S8x64x1024 .f32) (harg8 : arg8.IsWhole) (arg9 : Memref sig .tc .vmem S16x5632 .f32) (harg9 : arg9.IsWhole) (arg10 : Memref sig .tc .vmem S512x2816 .bf16) (harg10 : arg10.IsWhole) (arg11 : Memref sig .tc .vmem S512x1024 .f32) (harg11 : arg11.IsWhole) (arg12 : Memref sig .tc .vmem S1024x5632 .bf16) (harg12 : arg12.IsWhole) (arg13 : Memref sig .tc .vmem S2816x1024 .bf16) (harg13 : arg13.IsWhole) (alloca_r0 : Memref sig .tc .vmem S8x64x5632 .f32) (halloca_r0 : alloca_r0.IsWhole) (alloca_r1 : Memref sig .tc .vmem S8x352x1024 .f32) (halloca_r1 : alloca_r1.IsWhole) (hc0 : cond0_0 i) (hc1 : ¬cond0_1 i) (hc2 : ¬cond0_2 i)
    (x0 : Vec F S512x1024 .f32) (x1 : Vec F S1x1024 .f32) (x2 : Vec F S3x5632 .f32) (x3 : Vec F S1x5632 .f32) (x4 : Vec F S1x1024 .f32) (fh0 : HbBuf0 (F := F) c hbM0_0) (fh1 : HbBuf0 (F := F) c hbM0_1) : Vec F S512x1024 .f32 :=
  VS0_2.read (Elt F) (VS0_2.writes (Elt F) VS0_2.junk (kernelRun0_A c i arg1 harg1 arg2 harg2 arg4 harg4 arg5 harg5 arg7 harg7 arg8 harg8 arg9 harg9 arg10 harg10 arg11 harg11 arg12 harg12 arg13 harg13 alloca_r0 halloca_r0 alloca_r1 halloca_r1 hc0 hc1 hc2 x0 x1 x2 x3 x4 fh0 fh1).2.2.1)

/-- What case A leaves in scratch `arg12`: the up weights cast to bf16. -/
def sout0_A_3 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S3x5632 .f32) (harg4 : arg4.IsWhole) (arg5 : Memref sig .tc .vmem S1x5632 .f32) (harg5 : arg5.IsWhole) (arg7 : Memref sig .tc .vmem S1x1024 .f32) (harg7 : arg7.IsWhole) (arg8 : Memref sig .tc .vmem S8x64x1024 .f32) (harg8 : arg8.IsWhole) (arg9 : Memref sig .tc .vmem S16x5632 .f32) (harg9 : arg9.IsWhole) (arg10 : Memref sig .tc .vmem S512x2816 .bf16) (harg10 : arg10.IsWhole) (arg11 : Memref sig .tc .vmem S512x1024 .f32) (harg11 : arg11.IsWhole) (arg12 : Memref sig .tc .vmem S1024x5632 .bf16) (harg12 : arg12.IsWhole) (arg13 : Memref sig .tc .vmem S2816x1024 .bf16) (harg13 : arg13.IsWhole) (alloca_r0 : Memref sig .tc .vmem S8x64x5632 .f32) (halloca_r0 : alloca_r0.IsWhole) (alloca_r1 : Memref sig .tc .vmem S8x352x1024 .f32) (halloca_r1 : alloca_r1.IsWhole) (hc0 : cond0_0 i) (hc1 : ¬cond0_1 i) (hc2 : ¬cond0_2 i)
    (x0 : Vec F S512x1024 .f32) (x1 : Vec F S1x1024 .f32) (x2 : Vec F S3x5632 .f32) (x3 : Vec F S1x5632 .f32) (x4 : Vec F S1x1024 .f32) (fh0 : HbBuf0 (F := F) c hbM0_0) (fh1 : HbBuf0 (F := F) c hbM0_1) : Vec F S1024x5632 .bf16 :=
  wUp c fh0

/-- What case A leaves in scratch `arg13`: the down weights cast to bf16. -/
def sout0_A_4 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S3x5632 .f32) (harg4 : arg4.IsWhole) (arg5 : Memref sig .tc .vmem S1x5632 .f32) (harg5 : arg5.IsWhole) (arg7 : Memref sig .tc .vmem S1x1024 .f32) (harg7 : arg7.IsWhole) (arg8 : Memref sig .tc .vmem S8x64x1024 .f32) (harg8 : arg8.IsWhole) (arg9 : Memref sig .tc .vmem S16x5632 .f32) (harg9 : arg9.IsWhole) (arg10 : Memref sig .tc .vmem S512x2816 .bf16) (harg10 : arg10.IsWhole) (arg11 : Memref sig .tc .vmem S512x1024 .f32) (harg11 : arg11.IsWhole) (arg12 : Memref sig .tc .vmem S1024x5632 .bf16) (harg12 : arg12.IsWhole) (arg13 : Memref sig .tc .vmem S2816x1024 .bf16) (harg13 : arg13.IsWhole) (alloca_r0 : Memref sig .tc .vmem S8x64x5632 .f32) (halloca_r0 : alloca_r0.IsWhole) (alloca_r1 : Memref sig .tc .vmem S8x352x1024 .f32) (halloca_r1 : alloca_r1.IsWhole) (hc0 : cond0_0 i) (hc1 : ¬cond0_1 i) (hc2 : ¬cond0_2 i)
    (x0 : Vec F S512x1024 .f32) (x1 : Vec F S1x1024 .f32) (x2 : Vec F S3x5632 .f32) (x3 : Vec F S1x5632 .f32) (x4 : Vec F S1x1024 .f32) (fh0 : HbBuf0 (F := F) c hbM0_0) (fh1 : HbBuf0 (F := F) c hbM0_1) : Vec F S2816x1024 .bf16 :=
  wDown c fh1

end Cert.KernelIdeal.Gen

end

end
-- ==== Proof.Ffn.OutsB.lean ====
/- What the body leaves in its output block and in the carried buffers at the grid points 1 to 32. -/
module

public import proofs.«01_k».proof.Proof.Ffn.RunB
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case B's pieces for output 5 tile its block (1 store of `S8x64x1024`, checked by the kernel's evaluation: Lib/Ring.lean `Piece.tiledL`, linear in the pieces, through a loop's `@[irreducible]` trip theorem too), so they cover it. -/
theorem cover0_B_5 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S3x5632 .f32) (harg4 : arg4.IsWhole) (arg5 : Memref sig .tc .vmem S1x5632 .f32) (harg5 : arg5.IsWhole) (arg7 : Memref sig .tc .vmem S1x1024 .f32) (harg7 : arg7.IsWhole) (arg8 : Memref sig .tc .vmem S8x64x1024 .f32) (harg8 : arg8.IsWhole) (arg9 : Memref sig .tc .vmem S16x5632 .f32) (harg9 : arg9.IsWhole) (arg10 : Memref sig .tc .vmem S512x2816 .bf16) (harg10 : arg10.IsWhole) (arg11 : Memref sig .tc .vmem S512x1024 .f32) (harg11 : arg11.IsWhole) (arg12 : Memref sig .tc .vmem S1024x5632 .bf16) (harg12 : arg12.IsWhole) (arg13 : Memref sig .tc .vmem S2816x1024 .bf16) (harg13 : arg13.IsWhole) (alloca_r0 : Memref sig .tc .vmem S8x64x5632 .f32) (halloca_r0 : alloca_r0.IsWhole) (alloca_r1 : Memref sig .tc .vmem S8x352x1024 .f32) (halloca_r1 : alloca_r1.IsWhole) (hc0 : ¬cond0_0 i) (hc1 : cond0_1 i) (hc2 : ¬cond0_2 i)
    (x0 : Vec F S512x1024 .f32) (x1 : Vec F S1x1024 .f32) (x2 : Vec F S3x5632 .f32) (x3 : Vec F S1x5632 .f32) (x4 : Vec F S1x1024 .f32) (xs0 : Vec F S16x5632 .f32) (xs2 : Vec F S512x1024 .f32) (xs3 : Vec F S1024x5632 .bf16) (xs4 : Vec F S2816x1024 .bf16) (fh0 : HbBuf0 (F := F) c hbM0_0) (fh1 : HbBuf0 (F := F) c hbM0_1) (y : S8x64x1024.Idx) :
    ∃ pc ∈ (kernelRun0_B c i arg1 harg1 arg2 harg2 arg4 harg4 arg5 harg5 arg7 harg7 arg8 harg8 arg9 harg9 arg10 harg10 arg11 harg11 arg12 harg12 arg13 harg13 alloca_r0 halloca_r0 alloca_r1 halloca_r1 hc0 hc1 hc2 x0 x1 x2 x3 x4 xs0 xs2 xs3 xs4 fh0 fh1).1, y ∈ pc.1.set :=
  View.cover_of_tiledL (kernelRun0_B c i arg1 harg1 arg2 harg2 arg4 harg4 arg5 harg5 arg7 harg7 arg8 harg8 arg9 harg9 arg10 harg10 arg11 harg11 arg12 harg12 arg13 harg13 alloca_r0 halloca_r0 alloca_r1 halloca_r1 hc0 hc1 hc2 x0 x1 x2 x3 x4 xs0 xs2 xs3 xs4 fh0 fh1).1 S8x64x1024.size (by sl_kernel_rfl) y

/-- What case B leaves in output 5's staging buffer: its pieces read back over junk. -/
def out0_B_5 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S3x5632 .f32) (harg4 : arg4.IsWhole) (arg5 : Memref sig .tc .vmem S1x5632 .f32) (harg5 : arg5.IsWhole) (arg7 : Memref sig .tc .vmem S1x1024 .f32) (harg7 : arg7.IsWhole) (arg8 : Memref sig .tc .vmem S8x64x1024 .f32) (harg8 : arg8.IsWhole) (arg9 : Memref sig .tc .vmem S16x5632 .f32) (harg9 : arg9.IsWhole) (arg10 : Memref sig .tc .vmem S512x2816 .bf16) (harg10 : arg10.IsWhole) (arg11 : Memref sig .tc .vmem S512x1024 .f32) (harg11 : arg11.IsWhole) (arg12 : Memref sig .tc .vmem S1024x5632 .bf16) (harg12 : arg12.IsWhole) (arg13 : Memref sig .tc .vmem S2816x1024 .bf16) (harg13 : arg13.IsWhole) (alloca_r0 : Memref sig .tc .vmem S8x64x5632 .f32) (halloca_r0 : alloca_r0.IsWhole) (alloca_r1 : Memref sig .tc .vmem S8x352x1024 .f32) (halloca_r1 : alloca_r1.IsWhole) (hc0 : ¬cond0_0 i) (hc1 : cond0_1 i) (hc2 : ¬cond0_2 i)
    (x0 : Vec F S512x1024 .f32) (x1 : Vec F S1x1024 .f32) (x2 : Vec F S3x5632 .f32) (x3 : Vec F S1x5632 .f32) (x4 : Vec F S1x1024 .f32) (xs0 : Vec F S16x5632 .f32) (xs2 : Vec F S512x1024 .f32) (xs3 : Vec F S1024x5632 .bf16) (xs4 : Vec F S2816x1024 .bf16) (fh0 : HbBuf0 (F := F) c hbM0_0) (fh1 : HbBuf0 (F := F) c hbM0_1) : Vec F S8x64x1024 .f32 :=
  VO0_5.read (Elt F) (VO0_5.writes (Elt F) VO0_5.junk (kernelRun0_B c i arg1 harg1 arg2 harg2 arg4 harg4 arg5 harg5 arg7 harg7 arg8 harg8 arg9 harg9 arg10 harg10 arg11 harg11 arg12 harg12 arg13 harg13 alloca_r0 halloca_r0 alloca_r1 halloca_r1 hc0 hc1 hc2 x0 x1 x2 x3 x4 xs0 xs2 xs3 xs4 fh0 fh1).1)

/-- Case B's pieces for scratch `arg9`, which the kernel carries between points, cover it: 22 pieces of `S16x256` tiling it (Lib/Ring.lean `Piece.tiledL`). -/
theorem scover0_B_0 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S3x5632 .f32) (harg4 : arg4.IsWhole) (arg5 : Memref sig .tc .vmem S1x5632 .f32) (harg5 : arg5.IsWhole) (arg7 : Memref sig .tc .vmem S1x1024 .f32) (harg7 : arg7.IsWhole) (arg8 : Memref sig .tc .vmem S8x64x1024 .f32) (harg8 : arg8.IsWhole) (arg9 : Memref sig .tc .vmem S16x5632 .f32) (harg9 : arg9.IsWhole) (arg10 : Memref sig .tc .vmem S512x2816 .bf16) (harg10 : arg10.IsWhole) (arg11 : Memref sig .tc .vmem S512x1024 .f32) (harg11 : arg11.IsWhole) (arg12 : Memref sig .tc .vmem S1024x5632 .bf16) (harg12 : arg12.IsWhole) (arg13 : Memref sig .tc .vmem S2816x1024 .bf16) (harg13 : arg13.IsWhole) (alloca_r0 : Memref sig .tc .vmem S8x64x5632 .f32) (halloca_r0 : alloca_r0.IsWhole) (alloca_r1 : Memref sig .tc .vmem S8x352x1024 .f32) (halloca_r1 : alloca_r1.IsWhole) (hc0 : ¬cond0_0 i) (hc1 : cond0_1 i) (hc2 : ¬cond0_2 i)
    (x0 : Vec F S512x1024 .f32) (x1 : Vec F S1x1024 .f32) (x2 : Vec F S3x5632 .f32) (x3 : Vec F S1x5632 .f32) (x4 : Vec F S1x1024 .f32) (xs0 : Vec F S16x5632 .f32) (xs2 : Vec F S512x1024 .f32) (xs3 : Vec F S1024x5632 .bf16) (xs4 : Vec F S2816x1024 .bf16) (fh0 : HbBuf0 (F := F) c hbM0_0) (fh1 : HbBuf0 (F := F) c hbM0_1) (y : S16x5632.Idx) :
    ∃ pc ∈ (kernelRun0_B c i arg1 harg1 arg2 harg2 arg4 harg4 arg5 harg5 arg7 harg7 arg8 harg8 arg9 harg9 arg10 harg10 arg11 harg11 arg12 harg12 arg13 harg13 alloca_r0 halloca_r0 alloca_r1 halloca_r1 hc0 hc1 hc2 x0 x1 x2 x3 x4 xs0 xs2 xs3 xs4 fh0 fh1).2.1, y ∈ pc.1.set :=
  View.cover_of_tiledL (kernelRun0_B c i arg1 harg1 arg2 harg2 arg4 harg4 arg5 harg5 arg7 harg7 arg8 harg8 arg9 harg9 arg10 harg10 arg11 harg11 arg12 harg12 arg13 harg13 alloca_r0 halloca_r0 alloca_r1 halloca_r1 hc0 hc1 hc2 x0 x1 x2 x3 x4 xs0 xs2 xs3 xs4 fh0 fh1).2.1 S16x256.size (by sl_kernel_rfl) y

/-- What case B leaves in scratch `arg9`: its pieces read back over junk. -/
def sout0_B_0 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S3x5632 .f32) (harg4 : arg4.IsWhole) (arg5 : Memref sig .tc .vmem S1x5632 .f32) (harg5 : arg5.IsWhole) (arg7 : Memref sig .tc .vmem S1x1024 .f32) (harg7 : arg7.IsWhole) (arg8 : Memref sig .tc .vmem S8x64x1024 .f32) (harg8 : arg8.IsWhole) (arg9 : Memref sig .tc .vmem S16x5632 .f32) (harg9 : arg9.IsWhole) (arg10 : Memref sig .tc .vmem S512x2816 .bf16) (harg10 : arg10.IsWhole) (arg11 : Memref sig .tc .vmem S512x1024 .f32) (harg11 : arg11.IsWhole) (arg12 : Memref sig .tc .vmem S1024x5632 .bf16) (harg12 : arg12.IsWhole) (arg13 : Memref sig .tc .vmem S2816x1024 .bf16) (harg13 : arg13.IsWhole) (alloca_r0 : Memref sig .tc .vmem S8x64x5632 .f32) (halloca_r0 : alloca_r0.IsWhole) (alloca_r1 : Memref sig .tc .vmem S8x352x1024 .f32) (halloca_r1 : alloca_r1.IsWhole) (hc0 : ¬cond0_0 i) (hc1 : cond0_1 i) (hc2 : ¬cond0_2 i)
    (x0 : Vec F S512x1024 .f32) (x1 : Vec F S1x1024 .f32) (x2 : Vec F S3x5632 .f32) (x3 : Vec F S1x5632 .f32) (x4 : Vec F S1x1024 .f32) (xs0 : Vec F S16x5632 .f32) (xs2 : Vec F S512x1024 .f32) (xs3 : Vec F S1024x5632 .bf16) (xs4 : Vec F S2816x1024 .bf16) (fh0 : HbBuf0 (F := F) c hbM0_0) (fh1 : HbBuf0 (F := F) c hbM0_1) : Vec F S16x5632 .f32 :=
  VS0_0.read (Elt F) (VS0_0.writes (Elt F) VS0_0.junk (kernelRun0_B c i arg1 harg1 arg2 harg2 arg4 harg4 arg5 harg5 arg7 harg7 arg8 harg8 arg9 harg9 arg10 harg10 arg11 harg11 arg12 harg12 arg13 harg13 alloca_r0 halloca_r0 alloca_r1 halloca_r1 hc0 hc1 hc2 x0 x1 x2 x3 x4 xs0 xs2 xs3 xs4 fh0 fh1).2.1)

/-- Case B's pieces for scratch `arg11`, which the kernel carries between points, cover it: 1 piece of `S512x1024` tiling it (Lib/Ring.lean `Piece.tiledL`). -/
theorem scover0_B_2 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S3x5632 .f32) (harg4 : arg4.IsWhole) (arg5 : Memref sig .tc .vmem S1x5632 .f32) (harg5 : arg5.IsWhole) (arg7 : Memref sig .tc .vmem S1x1024 .f32) (harg7 : arg7.IsWhole) (arg8 : Memref sig .tc .vmem S8x64x1024 .f32) (harg8 : arg8.IsWhole) (arg9 : Memref sig .tc .vmem S16x5632 .f32) (harg9 : arg9.IsWhole) (arg10 : Memref sig .tc .vmem S512x2816 .bf16) (harg10 : arg10.IsWhole) (arg11 : Memref sig .tc .vmem S512x1024 .f32) (harg11 : arg11.IsWhole) (arg12 : Memref sig .tc .vmem S1024x5632 .bf16) (harg12 : arg12.IsWhole) (arg13 : Memref sig .tc .vmem S2816x1024 .bf16) (harg13 : arg13.IsWhole) (alloca_r0 : Memref sig .tc .vmem S8x64x5632 .f32) (halloca_r0 : alloca_r0.IsWhole) (alloca_r1 : Memref sig .tc .vmem S8x352x1024 .f32) (halloca_r1 : alloca_r1.IsWhole) (hc0 : ¬cond0_0 i) (hc1 : cond0_1 i) (hc2 : ¬cond0_2 i)
    (x0 : Vec F S512x1024 .f32) (x1 : Vec F S1x1024 .f32) (x2 : Vec F S3x5632 .f32) (x3 : Vec F S1x5632 .f32) (x4 : Vec F S1x1024 .f32) (xs0 : Vec F S16x5632 .f32) (xs2 : Vec F S512x1024 .f32) (xs3 : Vec F S1024x5632 .bf16) (xs4 : Vec F S2816x1024 .bf16) (fh0 : HbBuf0 (F := F) c hbM0_0) (fh1 : HbBuf0 (F := F) c hbM0_1) (y : S512x1024.Idx) :
    ∃ pc ∈ (kernelRun0_B c i arg1 harg1 arg2 harg2 arg4 harg4 arg5 harg5 arg7 harg7 arg8 harg8 arg9 harg9 arg10 harg10 arg11 harg11 arg12 harg12 arg13 harg13 alloca_r0 halloca_r0 alloca_r1 halloca_r1 hc0 hc1 hc2 x0 x1 x2 x3 x4 xs0 xs2 xs3 xs4 fh0 fh1).2.2.1, y ∈ pc.1.set :=
  View.cover_of_tiledL (kernelRun0_B c i arg1 harg1 arg2 harg2 arg4 harg4 arg5 harg5 arg7 harg7 arg8 harg8 arg9 harg9 arg10 harg10 arg11 harg11 arg12 harg12 arg13 harg13 alloca_r0 halloca_r0 alloca_r1 halloca_r1 hc0 hc1 hc2 x0 x1 x2 x3 x4 xs0 xs2 xs3 xs4 fh0 fh1).2.2.1 S512x1024.size (by sl_kernel_rfl) y

/-- What case B leaves in scratch `arg11`: its pieces read back over junk. -/
def sout0_B_2 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S3x5632 .f32) (harg4 : arg4.IsWhole) (arg5 : Memref sig .tc .vmem S1x5632 .f32) (harg5 : arg5.IsWhole) (arg7 : Memref sig .tc .vmem S1x1024 .f32) (harg7 : arg7.IsWhole) (arg8 : Memref sig .tc .vmem S8x64x1024 .f32) (harg8 : arg8.IsWhole) (arg9 : Memref sig .tc .vmem S16x5632 .f32) (harg9 : arg9.IsWhole) (arg10 : Memref sig .tc .vmem S512x2816 .bf16) (harg10 : arg10.IsWhole) (arg11 : Memref sig .tc .vmem S512x1024 .f32) (harg11 : arg11.IsWhole) (arg12 : Memref sig .tc .vmem S1024x5632 .bf16) (harg12 : arg12.IsWhole) (arg13 : Memref sig .tc .vmem S2816x1024 .bf16) (harg13 : arg13.IsWhole) (alloca_r0 : Memref sig .tc .vmem S8x64x5632 .f32) (halloca_r0 : alloca_r0.IsWhole) (alloca_r1 : Memref sig .tc .vmem S8x352x1024 .f32) (halloca_r1 : alloca_r1.IsWhole) (hc0 : ¬cond0_0 i) (hc1 : cond0_1 i) (hc2 : ¬cond0_2 i)
    (x0 : Vec F S512x1024 .f32) (x1 : Vec F S1x1024 .f32) (x2 : Vec F S3x5632 .f32) (x3 : Vec F S1x5632 .f32) (x4 : Vec F S1x1024 .f32) (xs0 : Vec F S16x5632 .f32) (xs2 : Vec F S512x1024 .f32) (xs3 : Vec F S1024x5632 .bf16) (xs4 : Vec F S2816x1024 .bf16) (fh0 : HbBuf0 (F := F) c hbM0_0) (fh1 : HbBuf0 (F := F) c hbM0_1) : Vec F S512x1024 .f32 :=
  VS0_2.read (Elt F) (VS0_2.writes (Elt F) VS0_2.junk (kernelRun0_B c i arg1 harg1 arg2 harg2 arg4 harg4 arg5 harg5 arg7 harg7 arg8 harg8 arg9 harg9 arg10 harg10 arg11 harg11 arg12 harg12 arg13 harg13 alloca_r0 halloca_r0 alloca_r1 halloca_r1 hc0 hc1 hc2 x0 x1 x2 x3 x4 xs0 xs2 xs3 xs4 fh0 fh1).2.2.1)

/-- Case B stores nothing into scratch `arg12`: it holds what the point before left. -/
def sout0_B_3 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S3x5632 .f32) (harg4 : arg4.IsWhole) (arg5 : Memref sig .tc .vmem S1x5632 .f32) (harg5 : arg5.IsWhole) (arg7 : Memref sig .tc .vmem S1x1024 .f32) (harg7 : arg7.IsWhole) (arg8 : Memref sig .tc .vmem S8x64x1024 .f32) (harg8 : arg8.IsWhole) (arg9 : Memref sig .tc .vmem S16x5632 .f32) (harg9 : arg9.IsWhole) (arg10 : Memref sig .tc .vmem S512x2816 .bf16) (harg10 : arg10.IsWhole) (arg11 : Memref sig .tc .vmem S512x1024 .f32) (harg11 : arg11.IsWhole) (arg12 : Memref sig .tc .vmem S1024x5632 .bf16) (harg12 : arg12.IsWhole) (arg13 : Memref sig .tc .vmem S2816x1024 .bf16) (harg13 : arg13.IsWhole) (alloca_r0 : Memref sig .tc .vmem S8x64x5632 .f32) (halloca_r0 : alloca_r0.IsWhole) (alloca_r1 : Memref sig .tc .vmem S8x352x1024 .f32) (halloca_r1 : alloca_r1.IsWhole) (hc0 : ¬cond0_0 i) (hc1 : cond0_1 i) (hc2 : ¬cond0_2 i)
    (x0 : Vec F S512x1024 .f32) (x1 : Vec F S1x1024 .f32) (x2 : Vec F S3x5632 .f32) (x3 : Vec F S1x5632 .f32) (x4 : Vec F S1x1024 .f32) (xs0 : Vec F S16x5632 .f32) (xs2 : Vec F S512x1024 .f32) (xs3 : Vec F S1024x5632 .bf16) (xs4 : Vec F S2816x1024 .bf16) (fh0 : HbBuf0 (F := F) c hbM0_0) (fh1 : HbBuf0 (F := F) c hbM0_1) : Vec F S1024x5632 .bf16 := xs3

/-- Case B stores nothing into scratch `arg13`: it holds what the point before left. -/
def sout0_B_4 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S3x5632 .f32) (harg4 : arg4.IsWhole) (arg5 : Memref sig .tc .vmem S1x5632 .f32) (harg5 : arg5.IsWhole) (arg7 : Memref sig .tc .vmem S1x1024 .f32) (harg7 : arg7.IsWhole) (arg8 : Memref sig .tc .vmem S8x64x1024 .f32) (harg8 : arg8.IsWhole) (arg9 : Memref sig .tc .vmem S16x5632 .f32) (harg9 : arg9.IsWhole) (arg10 : Memref sig .tc .vmem S512x2816 .bf16) (harg10 : arg10.IsWhole) (arg11 : Memref sig .tc .vmem S512x1024 .f32) (harg11 : arg11.IsWhole) (arg12 : Memref sig .tc .vmem S1024x5632 .bf16) (harg12 : arg12.IsWhole) (arg13 : Memref sig .tc .vmem S2816x1024 .bf16) (harg13 : arg13.IsWhole) (alloca_r0 : Memref sig .tc .vmem S8x64x5632 .f32) (halloca_r0 : alloca_r0.IsWhole) (alloca_r1 : Memref sig .tc .vmem S8x352x1024 .f32) (halloca_r1 : alloca_r1.IsWhole) (hc0 : ¬cond0_0 i) (hc1 : cond0_1 i) (hc2 : ¬cond0_2 i)
    (x0 : Vec F S512x1024 .f32) (x1 : Vec F S1x1024 .f32) (x2 : Vec F S3x5632 .f32) (x3 : Vec F S1x5632 .f32) (x4 : Vec F S1x1024 .f32) (xs0 : Vec F S16x5632 .f32) (xs2 : Vec F S512x1024 .f32) (xs3 : Vec F S1024x5632 .bf16) (xs4 : Vec F S2816x1024 .bf16) (fh0 : HbBuf0 (F := F) c hbM0_0) (fh1 : HbBuf0 (F := F) c hbM0_1) : Vec F S2816x1024 .bf16 := xs4

end Cert.KernelIdeal.Gen

end

end
-- ==== Proof.Ffn.OutsC.lean ====
/- What the body leaves in its output block and in the carried buffers at the last grid point. -/
module

public import proofs.«01_k».proof.Proof.Ffn.RunC
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case C's pieces for output 5 tile its block (1 store of `S8x64x1024`, checked by the kernel's evaluation: Lib/Ring.lean `Piece.tiledL`, linear in the pieces, through a loop's `@[irreducible]` trip theorem too), so they cover it. -/
theorem cover0_C_5 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S3x5632 .f32) (harg4 : arg4.IsWhole) (arg5 : Memref sig .tc .vmem S1x5632 .f32) (harg5 : arg5.IsWhole) (arg7 : Memref sig .tc .vmem S1x1024 .f32) (harg7 : arg7.IsWhole) (arg8 : Memref sig .tc .vmem S8x64x1024 .f32) (harg8 : arg8.IsWhole) (arg9 : Memref sig .tc .vmem S16x5632 .f32) (harg9 : arg9.IsWhole) (arg10 : Memref sig .tc .vmem S512x2816 .bf16) (harg10 : arg10.IsWhole) (arg11 : Memref sig .tc .vmem S512x1024 .f32) (harg11 : arg11.IsWhole) (arg12 : Memref sig .tc .vmem S1024x5632 .bf16) (harg12 : arg12.IsWhole) (arg13 : Memref sig .tc .vmem S2816x1024 .bf16) (harg13 : arg13.IsWhole) (alloca_r0 : Memref sig .tc .vmem S8x64x5632 .f32) (halloca_r0 : alloca_r0.IsWhole) (alloca_r1 : Memref sig .tc .vmem S8x352x1024 .f32) (halloca_r1 : alloca_r1.IsWhole) (hc0 : ¬cond0_0 i) (hc1 : ¬cond0_1 i) (hc2 : cond0_2 i)
    (x0 : Vec F S512x1024 .f32) (x1 : Vec F S1x1024 .f32) (x2 : Vec F S3x5632 .f32) (x3 : Vec F S1x5632 .f32) (x4 : Vec F S1x1024 .f32) (xs0 : Vec F S16x5632 .f32) (xs2 : Vec F S512x1024 .f32) (xs3 : Vec F S1024x5632 .bf16) (xs4 : Vec F S2816x1024 .bf16) (fh0 : HbBuf0 (F := F) c hbM0_0) (fh1 : HbBuf0 (F := F) c hbM0_1) (y : S8x64x1024.Idx) :
    ∃ pc ∈ (kernelRun0_C c i arg1 harg1 arg2 harg2 arg4 harg4 arg5 harg5 arg7 harg7 arg8 harg8 arg9 harg9 arg10 harg10 arg11 harg11 arg12 harg12 arg13 harg13 alloca_r0 halloca_r0 alloca_r1 halloca_r1 hc0 hc1 hc2 x0 x1 x2 x3 x4 xs0 xs2 xs3 xs4 fh0 fh1).1, y ∈ pc.1.set :=
  View.cover_of_tiledL (kernelRun0_C c i arg1 harg1 arg2 harg2 arg4 harg4 arg5 harg5 arg7 harg7 arg8 harg8 arg9 harg9 arg10 harg10 arg11 harg11 arg12 harg12 arg13 harg13 alloca_r0 halloca_r0 alloca_r1 halloca_r1 hc0 hc1 hc2 x0 x1 x2 x3 x4 xs0 xs2 xs3 xs4 fh0 fh1).1 S8x64x1024.size (by sl_kernel_rfl) y

/-- What case C leaves in output 5's staging buffer: its pieces read back over junk. -/
def out0_C_5 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S3x5632 .f32) (harg4 : arg4.IsWhole) (arg5 : Memref sig .tc .vmem S1x5632 .f32) (harg5 : arg5.IsWhole) (arg7 : Memref sig .tc .vmem S1x1024 .f32) (harg7 : arg7.IsWhole) (arg8 : Memref sig .tc .vmem S8x64x1024 .f32) (harg8 : arg8.IsWhole) (arg9 : Memref sig .tc .vmem S16x5632 .f32) (harg9 : arg9.IsWhole) (arg10 : Memref sig .tc .vmem S512x2816 .bf16) (harg10 : arg10.IsWhole) (arg11 : Memref sig .tc .vmem S512x1024 .f32) (harg11 : arg11.IsWhole) (arg12 : Memref sig .tc .vmem S1024x5632 .bf16) (harg12 : arg12.IsWhole) (arg13 : Memref sig .tc .vmem S2816x1024 .bf16) (harg13 : arg13.IsWhole) (alloca_r0 : Memref sig .tc .vmem S8x64x5632 .f32) (halloca_r0 : alloca_r0.IsWhole) (alloca_r1 : Memref sig .tc .vmem S8x352x1024 .f32) (halloca_r1 : alloca_r1.IsWhole) (hc0 : ¬cond0_0 i) (hc1 : ¬cond0_1 i) (hc2 : cond0_2 i)
    (x0 : Vec F S512x1024 .f32) (x1 : Vec F S1x1024 .f32) (x2 : Vec F S3x5632 .f32) (x3 : Vec F S1x5632 .f32) (x4 : Vec F S1x1024 .f32) (xs0 : Vec F S16x5632 .f32) (xs2 : Vec F S512x1024 .f32) (xs3 : Vec F S1024x5632 .bf16) (xs4 : Vec F S2816x1024 .bf16) (fh0 : HbBuf0 (F := F) c hbM0_0) (fh1 : HbBuf0 (F := F) c hbM0_1) : Vec F S8x64x1024 .f32 :=
  VO0_5.read (Elt F) (VO0_5.writes (Elt F) VO0_5.junk (kernelRun0_C c i arg1 harg1 arg2 harg2 arg4 harg4 arg5 harg5 arg7 harg7 arg8 harg8 arg9 harg9 arg10 harg10 arg11 harg11 arg12 harg12 arg13 harg13 alloca_r0 halloca_r0 alloca_r1 halloca_r1 hc0 hc1 hc2 x0 x1 x2 x3 x4 xs0 xs2 xs3 xs4 fh0 fh1).1)

/-- Case C stores nothing into scratch `arg9`: it holds what the point before left. -/
def sout0_C_0 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S3x5632 .f32) (harg4 : arg4.IsWhole) (arg5 : Memref sig .tc .vmem S1x5632 .f32) (harg5 : arg5.IsWhole) (arg7 : Memref sig .tc .vmem S1x1024 .f32) (harg7 : arg7.IsWhole) (arg8 : Memref sig .tc .vmem S8x64x1024 .f32) (harg8 : arg8.IsWhole) (arg9 : Memref sig .tc .vmem S16x5632 .f32) (harg9 : arg9.IsWhole) (arg10 : Memref sig .tc .vmem S512x2816 .bf16) (harg10 : arg10.IsWhole) (arg11 : Memref sig .tc .vmem S512x1024 .f32) (harg11 : arg11.IsWhole) (arg12 : Memref sig .tc .vmem S1024x5632 .bf16) (harg12 : arg12.IsWhole) (arg13 : Memref sig .tc .vmem S2816x1024 .bf16) (harg13 : arg13.IsWhole) (alloca_r0 : Memref sig .tc .vmem S8x64x5632 .f32) (halloca_r0 : alloca_r0.IsWhole) (alloca_r1 : Memref sig .tc .vmem S8x352x1024 .f32) (halloca_r1 : alloca_r1.IsWhole) (hc0 : ¬cond0_0 i) (hc1 : ¬cond0_1 i) (hc2 : cond0_2 i)
    (x0 : Vec F S512x1024 .f32) (x1 : Vec F S1x1024 .f32) (x2 : Vec F S3x5632 .f32) (x3 : Vec F S1x5632 .f32) (x4 : Vec F S1x1024 .f32) (xs0 : Vec F S16x5632 .f32) (xs2 : Vec F S512x1024 .f32) (xs3 : Vec F S1024x5632 .bf16) (xs4 : Vec F S2816x1024 .bf16) (fh0 : HbBuf0 (F := F) c hbM0_0) (fh1 : HbBuf0 (F := F) c hbM0_1) : Vec F S16x5632 .f32 := xs0

/-- Case C stores nothing into scratch `arg11`: it holds what the point before left. -/
def sout0_C_2 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S3x5632 .f32) (harg4 : arg4.IsWhole) (arg5 : Memref sig .tc .vmem S1x5632 .f32) (harg5 : arg5.IsWhole) (arg7 : Memref sig .tc .vmem S1x1024 .f32) (harg7 : arg7.IsWhole) (arg8 : Memref sig .tc .vmem S8x64x1024 .f32) (harg8 : arg8.IsWhole) (arg9 : Memref sig .tc .vmem S16x5632 .f32) (harg9 : arg9.IsWhole) (arg10 : Memref sig .tc .vmem S512x2816 .bf16) (harg10 : arg10.IsWhole) (arg11 : Memref sig .tc .vmem S512x1024 .f32) (harg11 : arg11.IsWhole) (arg12 : Memref sig .tc .vmem S1024x5632 .bf16) (harg12 : arg12.IsWhole) (arg13 : Memref sig .tc .vmem S2816x1024 .bf16) (harg13 : arg13.IsWhole) (alloca_r0 : Memref sig .tc .vmem S8x64x5632 .f32) (halloca_r0 : alloca_r0.IsWhole) (alloca_r1 : Memref sig .tc .vmem S8x352x1024 .f32) (halloca_r1 : alloca_r1.IsWhole) (hc0 : ¬cond0_0 i) (hc1 : ¬cond0_1 i) (hc2 : cond0_2 i)
    (x0 : Vec F S512x1024 .f32) (x1 : Vec F S1x1024 .f32) (x2 : Vec F S3x5632 .f32) (x3 : Vec F S1x5632 .f32) (x4 : Vec F S1x1024 .f32) (xs0 : Vec F S16x5632 .f32) (xs2 : Vec F S512x1024 .f32) (xs3 : Vec F S1024x5632 .bf16) (xs4 : Vec F S2816x1024 .bf16) (fh0 : HbBuf0 (F := F) c hbM0_0) (fh1 : HbBuf0 (F := F) c hbM0_1) : Vec F S512x1024 .f32 := xs2

/-- Case C stores nothing into scratch `arg12`: it holds what the point before left. -/
def sout0_C_3 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S3x5632 .f32) (harg4 : arg4.IsWhole) (arg5 : Memref sig .tc .vmem S1x5632 .f32) (harg5 : arg5.IsWhole) (arg7 : Memref sig .tc .vmem S1x1024 .f32) (harg7 : arg7.IsWhole) (arg8 : Memref sig .tc .vmem S8x64x1024 .f32) (harg8 : arg8.IsWhole) (arg9 : Memref sig .tc .vmem S16x5632 .f32) (harg9 : arg9.IsWhole) (arg10 : Memref sig .tc .vmem S512x2816 .bf16) (harg10 : arg10.IsWhole) (arg11 : Memref sig .tc .vmem S512x1024 .f32) (harg11 : arg11.IsWhole) (arg12 : Memref sig .tc .vmem S1024x5632 .bf16) (harg12 : arg12.IsWhole) (arg13 : Memref sig .tc .vmem S2816x1024 .bf16) (harg13 : arg13.IsWhole) (alloca_r0 : Memref sig .tc .vmem S8x64x5632 .f32) (halloca_r0 : alloca_r0.IsWhole) (alloca_r1 : Memref sig .tc .vmem S8x352x1024 .f32) (halloca_r1 : alloca_r1.IsWhole) (hc0 : ¬cond0_0 i) (hc1 : ¬cond0_1 i) (hc2 : cond0_2 i)
    (x0 : Vec F S512x1024 .f32) (x1 : Vec F S1x1024 .f32) (x2 : Vec F S3x5632 .f32) (x3 : Vec F S1x5632 .f32) (x4 : Vec F S1x1024 .f32) (xs0 : Vec F S16x5632 .f32) (xs2 : Vec F S512x1024 .f32) (xs3 : Vec F S1024x5632 .bf16) (xs4 : Vec F S2816x1024 .bf16) (fh0 : HbBuf0 (F := F) c hbM0_0) (fh1 : HbBuf0 (F := F) c hbM0_1) : Vec F S1024x5632 .bf16 := xs3

/-- Case C stores nothing into scratch `arg13`: it holds what the point before left. -/
def sout0_C_4 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S3x5632 .f32) (harg4 : arg4.IsWhole) (arg5 : Memref sig .tc .vmem S1x5632 .f32) (harg5 : arg5.IsWhole) (arg7 : Memref sig .tc .vmem S1x1024 .f32) (harg7 : arg7.IsWhole) (arg8 : Memref sig .tc .vmem S8x64x1024 .f32) (harg8 : arg8.IsWhole) (arg9 : Memref sig .tc .vmem S16x5632 .f32) (harg9 : arg9.IsWhole) (arg10 : Memref sig .tc .vmem S512x2816 .bf16) (harg10 : arg10.IsWhole) (arg11 : Memref sig .tc .vmem S512x1024 .f32) (harg11 : arg11.IsWhole) (arg12 : Memref sig .tc .vmem S1024x5632 .bf16) (harg12 : arg12.IsWhole) (arg13 : Memref sig .tc .vmem S2816x1024 .bf16) (harg13 : arg13.IsWhole) (alloca_r0 : Memref sig .tc .vmem S8x64x5632 .f32) (halloca_r0 : alloca_r0.IsWhole) (alloca_r1 : Memref sig .tc .vmem S8x352x1024 .f32) (halloca_r1 : alloca_r1.IsWhole) (hc0 : ¬cond0_0 i) (hc1 : ¬cond0_1 i) (hc2 : cond0_2 i)
    (x0 : Vec F S512x1024 .f32) (x1 : Vec F S1x1024 .f32) (x2 : Vec F S3x5632 .f32) (x3 : Vec F S1x5632 .f32) (x4 : Vec F S1x1024 .f32) (xs0 : Vec F S16x5632 .f32) (xs2 : Vec F S512x1024 .f32) (xs3 : Vec F S1024x5632 .bf16) (xs4 : Vec F S2816x1024 .bf16) (fh0 : HbBuf0 (F := F) c hbM0_0) (fh1 : HbBuf0 (F := F) c hbM0_1) : Vec F S2816x1024 .bf16 := xs4

end Cert.KernelIdeal.Gen

end

end
-- ==== Proof.Ffn.Frame.lean ====
/- The whole run of the kernel: what every buffer holds after every grid point, and the run of the program. -/
module

public import proofs.«01_k».proof.Proof.Ffn.OutsA
public import proofs.«01_k».proof.Proof.Ffn.OutsB
public import proofs.«01_k».proof.Proof.Ffn.OutsC
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x64x1024 .f32 × Vec F S16x5632 .f32 × Vec F S512x1024 .f32 × Vec F S1024x5632 .bf16 × Vec F S2816x1024 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (V m c main_v8) (V m c main_v12), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (V m c main_v8) (V m c main_v12), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (V m c main_v8) (V m c main_v12), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (V m c main_v8) (V m c main_v12), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (V m c main_v8) (V m c main_v12))
  | n + 1, hn =>
    if h0 : (n + 1) % 34 = 0 then
      if h1 : (1 ≤ (n + 1) % 34 ∧ (n + 1) % 34 ≤ 32) then
        False.elim (by have hN : n + 1 < 34 := lt_of_lt_of_eq hn (show cfg0.N = 34 from N_0); omega)
      else
        if h2 : (n + 1) % 34 = 33 then
          False.elim (by have hN : n + 1 < 34 := lt_of_lt_of_eq hn (show cfg0.N = 34 from N_0); omega)
        else
          (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v8) (V m c main_v12), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v8) (V m c main_v12), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v8) (V m c main_v12), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v8) (V m c main_v12), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v8) (V m c main_v12))
    else
      if h1 : (1 ≤ (n + 1) % 34 ∧ (n + 1) % 34 ≤ 32) then
        if h2 : (n + 1) % 34 = 33 then
          False.elim (by have hN : n + 1 < 34 := lt_of_lt_of_eq hn (show cfg0.N = 34 from N_0); omega)
        else
          (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2 (V m c main_v8) (V m c main_v12), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2 (V m c main_v8) (V m c main_v12), sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2 (V m c main_v8) (V m c main_v12), sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2 (V m c main_v8) (V m c main_v12), sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2 (V m c main_v8) (V m c main_v12))
      else
        if h2 : (n + 1) % 34 = 33 then
          (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2 (V m c main_v8) (V m c main_v12), sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2 (V m c main_v8) (V m c main_v12), sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2 (V m c main_v8) (V m c main_v12), sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2 (V m c main_v8) (V m c main_v12), sout0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2 (V m c main_v8) (V m c main_v12))
        else
          False.elim (by have hN : n + 1 < 34 := lt_of_lt_of_eq hn (show cfg0.N = 34 from N_0); omega)

/-- `outsAt0` at a point of case A: that case's contents. -/
theorem outsAt0_A (c : Dev nD) (t : Fin cfg0.N) (h0 : t.val % 34 = 0) (h1 : ¬(1 ≤ t.val % 34 ∧ t.val % 34 ≤ 32)) (h2 : ¬t.val % 34 = 33) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (V m c main_v8) (V m c main_v12), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (V m c main_v8) (V m c main_v12), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (V m c main_v8) (V m c main_v12), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (V m c main_v8) (V m c main_v12), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (V m c main_v8) (V m c main_v12)) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 34 = 0) (h1 : (1 ≤ t.val % 34 ∧ t.val % 34 ≤ 32)) (h2 : ¬t.val % 34 = 33) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_v8) (V m c main_v12), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_v8) (V m c main_v12), sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_v8) (V m c main_v12), sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_v8) (V m c main_v12), sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_v8) (V m c main_v12)) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 34 = 0) (h1 : ¬(1 ≤ t.val % 34 ∧ t.val % 34 ≤ 32)) (h2 : t.val % 34 = 33) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_v8) (V m c main_v12), sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_v8) (V m c main_v12), sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_v8) (V m c main_v12), sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_v8) (V m c main_v12), sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_v8) (V m c main_v12)) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    launch's invariant (Lib/Pipeline/Frame.lean `ΦD`: every scratch at anything, the own cells at zero, the HBM operands, the generator register); afterwards the same with each carried
    scratch at what the point before left in it (`outsAt0`'s scratch components), the others at anything. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.1) ∗ (∃ d, owns (c : Thread nD τ) scM0_1 fullShare d) ∗ owns (c : Thread nD τ) scM0_2 fullShare ((outsAt0 m c n hn).2.2.1) ∗ owns (c : Thread nD τ) scM0_3 fullShare ((outsAt0 m c n hn).2.2.2.1) ∗ owns (c : Thread nD τ) scM0_4 fullShare ((outsAt0 m c n hn).2.2.2.2) ∗ (∃ d, owns (c : Thread nD τ) scM0_5 fullShare d) ∗ (∃ d, owns (c : Thread nD τ) scM0_6 fullShare d)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0) ∗ iprop(hbPt0 c hbM0_0 (V m c main_v8) ∗ hbPt0 c hbM0_1 (V m c main_v12)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ (∃ d, owns (c : Thread nD τ) scM0_1 fullShare d) ∗ owns (c : Thread nD τ) scM0_2 fullShare ((outsAt0 m c n hn).2.2.1) ∗ owns (c : Thread nD τ) scM0_3 fullShare ((outsAt0 m c n hn).2.2.2.1) ∗ owns (c : Thread nD τ) scM0_4 fullShare ((outsAt0 m c n hn).2.2.2.2) ∗ (∃ d, owns (c : Thread nD τ) scM0_5 fullShare d) ∗ (∃ d, owns (c : Thread nD τ) scM0_6 fullShare d)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0) ∗ iprop(hbPt0 c hbM0_0 (V m c main_v8) ∗ hbPt0 c hbM0_1 (V m c main_v12))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ (∃ d, owns (c : Thread nD τ) scM0_1 fullShare d) ∗ owns (c : Thread nD τ) scM0_2 fullShare ((outsAt0 m c (n - 1) (by omega)).2.2.1) ∗ owns (c : Thread nD τ) scM0_3 fullShare ((outsAt0 m c (n - 1) (by omega)).2.2.2.1) ∗ owns (c : Thread nD τ) scM0_4 fullShare ((outsAt0 m c (n - 1) (by omega)).2.2.2.2) ∗ (∃ d, owns (c : Thread nD τ) scM0_5 fullShare d) ∗ (∃ d, owns (c : Thread nD τ) scM0_6 fullShare d)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0) ∗ iprop(hbPt0 c hbM0_0 (V m c main_v8) ∗ hbPt0 c hbM0_1 (V m c main_v12))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`, the rest of `ΦD` opened by `PhiD0_eq`), the other scratch at anything, the register, its DMA cells at zero and the HBM operands, and takes the carried scratch back at this point's contents (`PhiS_succ`, by `scoverK_κ_N`), the cells and operands as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = PhiS m c (t.val + 1) t.isLt from rfl, PhiS_succ]
  unfold Dat.owesAt Pipeline.owesWithin
  rw [show (dats m 0 c).owed t.castSucc = 0 from rfl, show (dats m 0 c).owed t.succ = 0 from rfl]
  have hN : t.val < 34 := lt_of_lt_of_eq t.isLt (show cfg0.N = 34 from N_0)
  by_cases h0 : t.val % 34 = 0
  · by_cases h1 : (1 ≤ t.val % 34 ∧ t.val % 34 ≤ 32)
    · exfalso; omega
    · by_cases h2 : t.val % 34 = 33
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [Dat.leavesExact_idle (dats m 0 c) 5 t (idleAt0_5_A t ((hcond0_0 t).mpr h0) (fun h => h1 ((hcond0_1 t).mp h)) (fun h => h2 ((hcond0_2 t).mp h))) (noFlush0_5_A t ((hcond0_0 t).mpr h0) (fun h => h1 ((hcond0_1 t).mp h)) (fun h => h2 ((hcond0_2 t).mp h)))]
        by_cases hz : t.val = 0
        · rw [PhiS_castSucc m c t, PhiS_zero m c _ _ hz, PhiD0_eq]
          rw [outsAt0_A m c t h0 h1 h2]
          unfold sout0_A_0 sout0_A_2 sout0_A_3 sout0_A_4; (try dsimp only)
          iintro ⟨⟨⟨HS0, HS1, HS2, HS3, HS4, HS5, HS6⟩, Hg, ⟨Hq0, Hq1, Hq2, Hq3, Hq4, Hq5, Hq6, Hq7, Hq8, Hq9, Hq10, Hq11, Hq12, Hq13, Hq14, Hq15⟩, ⟨Hh0, Hh1⟩⟩, ⟨%W, -, HW⟩, ⟨%d0, H0⟩, ⟨%d1, H1⟩, ⟨%d2, H2⟩, ⟨%d3, H3⟩, ⟨%d4, H4⟩, ⟨%d5, H5⟩⟩
          iapply ((kernelRun0_A c (grid0.coords t) _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (V m c main_v8) (V m c main_v12)).2.2.2.2.2.2 _ W _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [Hq12]; · iexact Hq12
          isplitl [Hq13]; · iexact Hq13
          isplitl [Hq14]; · iexact Hq14
          isplitl [Hq15]; · iexact Hq15
          isplitl [Hh0]; · iexact Hh0
          isplitl [Hh1]; · iexact Hh1
          isplitl [HW]; · iexact HW
          iintro ⟨H0, H1, H2, H3, H4, H5, ⟨%es0, HS0⟩, HS1, ⟨%es2, HS2⟩, HS3, HS4, HS5, HS6, Hq0, Hq1, Hq2, Hq3, Hq4, Hq5, Hq6, Hq7, Hq8, Hq9, Hq10, Hq11, Hq12, Hq13, Hq14, Hq15, Hh0, Hh1, ⟨%W', HW'⟩⟩
          isplitl [HS0 HS1 HS2 HS3 HS4 HS5 HS6 Hg Hq0 Hq1 Hq2 Hq3 Hq4 Hq5 Hq6 Hq7 Hq8 Hq9 Hq10 Hq11 Hq12 Hq13 Hq14 Hq15 Hh0 Hh1]
          · isplitl [HS0 HS1 HS2 HS3 HS4 HS5 HS6]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _)
              isplitl [HS1]; · iexact HS1
              isplitl [HS2]
              · unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _ _ _ _ _ _ _)
              isplitl [HS3]; · iexact HS3
              isplitl [HS4]; · iexact HS4
              isplitl [HS5]; · iexact HS5
              iexact HS6
            isplitl [Hg]
            · iexact Hg
            isplitl [Hq0 Hq1 Hq2 Hq3 Hq4 Hq5 Hq6 Hq7 Hq8 Hq9 Hq10 Hq11 Hq12 Hq13 Hq14 Hq15]
            · isplitl [Hq0]; · iexact Hq0
              isplitl [Hq1]; · iexact Hq1
              isplitl [Hq2]; · iexact Hq2
              isplitl [Hq3]; · iexact Hq3
              isplitl [Hq4]; · iexact Hq4
              isplitl [Hq5]; · iexact Hq5
              isplitl [Hq6]; · iexact Hq6
              isplitl [Hq7]; · iexact Hq7
              isplitl [Hq8]; · iexact Hq8
              isplitl [Hq9]; · iexact Hq9
              isplitl [Hq10]; · iexact Hq10
              isplitl [Hq11]; · iexact Hq11
              isplitl [Hq12]; · iexact Hq12
              isplitl [Hq13]; · iexact Hq13
              isplitl [Hq14]; · iexact Hq14
              iexact Hq15
            isplitl [Hh0]; · iexact Hh0
            iexact Hh1
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          iexists _; iexact H5
        · exfalso; have hN : t.val < 34 := lt_of_lt_of_eq t.isLt (show cfg0.N = 34 from N_0); omega
  · by_cases h1 : (1 ≤ t.val % 34 ∧ t.val % 34 ≤ 32)
    · by_cases h2 : t.val % 34 = 33
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_B t (fun h => h0 ((hcond0_0 t).mp h)) ((hcond0_1 t).mpr h1) (fun h => h2 ((hcond0_2 t).mp h))], after0_5]
        by_cases hz : t.val = 0
        · exfalso; have hN : t.val < 34 := lt_of_lt_of_eq t.isLt (show cfg0.N = 34 from N_0); omega
        · rw [PhiS_castSucc m c t, PhiS_pos m c _ _ hz]
          rw [outsAt0_B m c t h0 h1 h2]
          unfold out0_B_5 sout0_B_0 sout0_B_2 sout0_B_3 sout0_B_4; (try dsimp only)
          iintro ⟨⟨⟨HS0, HS1, HS2, HS3, HS4, HS5, HS6⟩, Hg, ⟨Hq0, Hq1, Hq2, Hq3, Hq4, Hq5, Hq6, Hq7, Hq8, Hq9, Hq10, Hq11, Hq12, Hq13, Hq14, Hq15⟩, ⟨Hh0, Hh1⟩⟩, ⟨%W, -, HW⟩, ⟨%d0, H0⟩, ⟨%d1, H1⟩, ⟨%d2, H2⟩, ⟨%d3, H3⟩, ⟨%d4, H4⟩, ⟨%d5, H5⟩⟩
          iapply ((kernelRun0_B c (grid0.coords t) _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) _ _ _ _ (V m c main_v8) (V m c main_v12)).2.2.2.2.2.2 W _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [Hq12]; · iexact Hq12
          isplitl [Hq13]; · iexact Hq13
          isplitl [Hq14]; · iexact Hq14
          isplitl [Hq15]; · iexact Hq15
          isplitl [Hh0]; · iexact Hh0
          isplitl [Hh1]; · iexact Hh1
          isplitl [HW]; · iexact HW
          iintro ⟨H0, H1, H2, H3, H4, ⟨%e5, H5⟩, ⟨%es0, HS0⟩, ⟨%fT1, HS1⟩, ⟨%es2, HS2⟩, HS3, HS4, HS5, HS6, Hq0, Hq1, Hq2, Hq3, Hq4, Hq5, Hq6, Hq7, Hq8, Hq9, Hq10, Hq11, Hq12, Hq13, Hq14, Hq15, Hh0, Hh1, ⟨%W', HW'⟩⟩
          isplitl [HS0 HS1 HS2 HS3 HS4 HS5 HS6 Hg Hq0 Hq1 Hq2 Hq3 Hq4 Hq5 Hq6 Hq7 Hq8 Hq9 Hq10 Hq11 Hq12 Hq13 Hq14 Hq15 Hh0 Hh1]
          · isplitl [HS0 HS1 HS2 HS3 HS4 HS5 HS6]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _ _ _ _ _ _ _ _)
              isplitl [HS1]
              · iexists _; unfold owns; iexists _; isplitr
                swap; · iexact HS1
                ipureintro; rfl
              isplitl [HS2]
              · unfold owns; iexists _; isplitr
                swap; · iexact HS2
                ipureintro; exact View.read_writes_of_cover _ _ _ _ _ (scover0_B_2 c _ _ _ _ _ _ _ _ _ _ _ _ _ _ _ _ _ _ _ _ _ _ _ _ _ _ _ _ _ _ _ _ _ _ _ _ _ _ _ _ _)
              isplitl [HS3]; · iexact HS3
              isplitl [HS4]; · iexact HS4
              isplitl [HS5]; · iexact HS5
              iexact HS6
            isplitl [Hg]
            · iexact Hg
            isplitl [Hq0 Hq1 Hq2 Hq3 Hq4 Hq5 Hq6 Hq7 Hq8 Hq9 Hq10 Hq11 Hq12 Hq13 Hq14 Hq15]
            · isplitl [Hq0]; · iexact Hq0
              isplitl [Hq1]; · iexact Hq1
              isplitl [Hq2]; · iexact Hq2
              isplitl [Hq3]; · iexact Hq3
              isplitl [Hq4]; · iexact Hq4
              isplitl [Hq5]; · iexact Hq5
              isplitl [Hq6]; · iexact Hq6
              isplitl [Hq7]; · iexact Hq7
              isplitl [Hq8]; · iexact Hq8
              isplitl [Hq9]; · iexact Hq9
              isplitl [Hq10]; · iexact Hq10
              isplitl [Hq11]; · iexact Hq11
              isplitl [Hq12]; · iexact Hq12
              isplitl [Hq13]; · iexact Hq13
              isplitl [Hq14]; · iexact Hq14
              iexact Hq15
            isplitl [Hh0]; · iexact Hh0
            iexact Hh1
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover0_B_5 c _ _ _ _ _ _ _ _ _ _ _ _ _ _ _ _ _ _ _ _ _ _ _ _ _ _ _ _ _ _ _ _ _ _ _ _ _ _ _ _ _)
    · by_cases h2 : t.val % 34 = 33
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_C t (fun h => h0 ((hcond0_0 t).mp h)) (fun h => h1 ((hcond0_1 t).mp h)) ((hcond0_2 t).mpr h2)], after0_5]
        by_cases hz : t.val = 0
        · exfalso; have hN : t.val < 34 := lt_of_lt_of_eq t.isLt (show cfg0.N = 34 from N_0); omega
        · rw [PhiS_castSucc m c t, PhiS_pos m c _ _ hz]
          rw [outsAt0_C m c t h0 h1 h2]
          unfold out0_C_5 sout0_C_0 sout0_C_2 sout0_C_3 sout0_C_4; (try dsimp only)
          iintro ⟨⟨⟨HS0, HS1, HS2, HS3, HS4, HS5, HS6⟩, Hg, ⟨Hq0, Hq1, Hq2, Hq3, Hq4, Hq5, Hq6, Hq7, Hq8, Hq9, Hq10, Hq11, Hq12, Hq13, Hq14, Hq15⟩, ⟨Hh0, Hh1⟩⟩, ⟨%W, -, HW⟩, ⟨%d0, H0⟩, ⟨%d1, H1⟩, ⟨%d2, H2⟩, ⟨%d3, H3⟩, ⟨%d4, H4⟩, ⟨%d5, H5⟩⟩
          iapply ((kernelRun0_C c (grid0.coords t) _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) _ _ _ _ (V m c main_v8) (V m c main_v12)).2.2.2.2.2.2 W _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [Hq12]; · iexact Hq12
          isplitl [Hq13]; · iexact Hq13
          isplitl [Hq14]; · iexact Hq14
          isplitl [Hq15]; · iexact Hq15
          isplitl [Hh0]; · iexact Hh0
          isplitl [Hh1]; · iexact Hh1
          isplitl [HW]; · iexact HW
          iintro ⟨H0, H1, H2, H3, H4, ⟨%e5, H5⟩, HS0, HS1, HS2, HS3, HS4, HS5, HS6, Hq0, Hq1, Hq2, Hq3, Hq4, Hq5, Hq6, Hq7, Hq8, Hq9, Hq10, Hq11, Hq12, Hq13, Hq14, Hq15, Hh0, Hh1, ⟨%W', HW'⟩⟩
          isplitl [HS0 HS1 HS2 HS3 HS4 HS5 HS6 Hg Hq0 Hq1 Hq2 Hq3 Hq4 Hq5 Hq6 Hq7 Hq8 Hq9 Hq10 Hq11 Hq12 Hq13 Hq14 Hq15 Hh0 Hh1]
          · isplitl [HS0 HS1 HS2 HS3 HS4 HS5 HS6]
            · isplitl [HS0]; · iexact HS0
              isplitl [HS1]; · iexact HS1
              isplitl [HS2]; · iexact HS2
              isplitl [HS3]; · iexact HS3
              isplitl [HS4]; · iexact HS4
              isplitl [HS5]; · iexact HS5
              iexact HS6
            isplitl [Hg]
            · iexact Hg
            isplitl [Hq0 Hq1 Hq2 Hq3 Hq4 Hq5 Hq6 Hq7 Hq8 Hq9 Hq10 Hq11 Hq12 Hq13 Hq14 Hq15]
            · isplitl [Hq0]; · iexact Hq0
              isplitl [Hq1]; · iexact Hq1
              isplitl [Hq2]; · iexact Hq2
              isplitl [Hq3]; · iexact Hq3
              isplitl [Hq4]; · iexact Hq4
              isplitl [Hq5]; · iexact Hq5
              isplitl [Hq6]; · iexact Hq6
              isplitl [Hq7]; · iexact Hq7
              isplitl [Hq8]; · iexact Hq8
              isplitl [Hq9]; · iexact Hq9
              isplitl [Hq10]; · iexact Hq10
              isplitl [Hq11]; · iexact Hq11
              isplitl [Hq12]; · iexact Hq12
              isplitl [Hq13]; · iexact Hq13
              isplitl [Hq14]; · iexact Hq14
              iexact Hq15
            isplitl [Hh0]; · iexact Hh0
            iexact Hh1
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover0_C_5 c _ _ _ _ _ _ _ _ _ _ _ _ _ _ _ _ _ _ _ _ _ _ _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3, HS4, HS5, HS6⟩, Hg, ⟨Hq0, Hq1, Hq2, Hq3, Hq4, Hq5, Hq6, Hq7, Hq8, Hq9, Hq10, Hq11, Hq12, Hq13, Hq14, Hq15⟩, ⟨Hh0, Hh1⟩⟩
  isplitl [HS0 HS1 HS2 HS3 HS4 HS5 HS6]
  · isplitl [HS0]
    · iexists _; iexact HS0
    isplitl [HS1]
    · iexact HS1
    isplitl [HS2]
    · iexists _; iexact HS2
    isplitl [HS3]
    · iexists _; iexact HS3
    isplitl [HS4]
    · iexists _; iexact HS4
    isplitl [HS5]
    · iexact HS5
    iexact HS6
  isplitl [Hg]; · iexact Hg
  isplitl [Hq0 Hq1 Hq2 Hq3 Hq4 Hq5 Hq6 Hq7 Hq8 Hq9 Hq10 Hq11 Hq12 Hq13 Hq14 Hq15]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    iexact Hq15
  isplitl [Hh0]; · iexact Hh0
  iexact Hh1

/-- The same after the last point. -/
theorem hout (c : Dev nD) : (dats m 0 c).Φ (Fin.last cfg0.N) ⊢ Pipeline.ΦD osem0 spec0 H0 (V m) c :=
  Phi_out m c _ (by rw [Fin.val_last]; have : cfg0.N = 34 := N_0; omega)

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Gen

end
-- ==== Proof.Ffn.Spec.lean ====
/- The feed-forward layer on rows of extended reals: the normalisation of a row, its product with the first weights, the convolution along
   time, the gate, the product with the second weights. Everything is stated for one row, from the rows it depends on. -/
module

public import Idealize.ShloMosaic.Lib.Pointwise

@[expose] public section

noncomputable section

namespace Cert.Ffn

open Idealize.ShloMosaic

/-- The reciprocal root of a row's mean square, the small constant added under the root. -/
def rstd (x : Fin 1024 → EReal) : EReal :=
  Ideal.rsqrt (Ideal.div (∑ k, x k * x k) (Ideal.ofBits FTy.f32 1149239296#32) + Ideal.ofBits FTy.f32 897988541#32)

/-- A row divided by the root of its mean square and multiplied by the gain. -/
def nrm (g x : Fin 1024 → EReal) (d : Fin 1024) : EReal := x d * rstd x * g d

/-- The normalised row times the first weights. -/
def upRow (g : Fin 1024 → EReal) (W : Fin 1024 → Fin 5632 → EReal) (x : Fin 1024 → EReal) (j : Fin 5632) : EReal :=
  ∑ d, nrm g x d * W d j

/-- The convolution of three rows one time step apart, the oldest first, with its bias. -/
def conv (cw : Fin 3 → Fin 5632 → EReal) (cb : Fin 5632 → EReal) (p q r : Fin 5632 → EReal) (j : Fin 5632) : EReal :=
  cw 0 j * p j + cw 1 j * q j + cw 2 j * r j + cb j

/-- The gated half: `silu` of a column of the first half times the same column of the second half. -/
def act (c : Fin 5632 → EReal) (f : Fin 2816) : EReal :=
  c ⟨f.val, by omega⟩ * Ideal.logistic (c ⟨f.val, by omega⟩) * c ⟨2816 + f.val, by omega⟩

/-- The row plus its gated half times the second weights. -/
def ffnRow (Wd : Fin 2816 → Fin 1024 → EReal) (x : Fin 1024 → EReal) (c : Fin 5632 → EReal) (d : Fin 1024) : EReal :=
  x d + ∑ f, act c f * Wd f d

/-- A block's rows with sixteen earlier rows put before them. -/
def ext (C U : ℕ → Fin 5632 → EReal) (q : ℕ) : Fin 5632 → EReal := if q < 16 then C q else U (q - 16)

/-- The convolution of row `r` of a block whose sixteen earlier rows are `C`: a time step is eight rows. -/
def convBlock (cw : Fin 3 → Fin 5632 → EReal) (cb : Fin 5632 → EReal) (C U : ℕ → Fin 5632 → EReal) (r : ℕ) : Fin 5632 → EReal :=
  conv cw cb (ext C U r) (ext C U (8 + r)) (ext C U (16 + r))

/-- A matrix's rows, read by natural numbers: zero past the last. -/
def rows {n k : ℕ} (X : Fin n → Fin k → EReal) (r : ℕ) (j : Fin k) : EReal := if h : r < n then X ⟨r, h⟩ j else 0

theorem rows_of_lt {n k : ℕ} (X : Fin n → Fin k → EReal) {r : ℕ} (h : r < n) (j : Fin k) : rows X r j = X ⟨r, h⟩ j := dif_pos h

end Cert.Ffn

end

end
-- ==== Proof.Ffn.ValueB.lean ====
/- What the body leaves at the grid points 1 to 32, as numbers: the carried rows, the pending block and the written block, each entry from the
   rows, the carried rows and the weights it depends on. -/
module

public import proofs.«01_k».proof.Proof.Ffn.OutsB
public import proofs.«01_k».proof.Proof.Ffn.Spec
public import Idealize.ShloMosaic.Lib.Pipeline.Value
public import Idealize.ShloMosaic.Lib.Pipeline.ValueKit
public import Idealize.ShloMosaic.Lib.WholeRead

@[expose] public section

set_option maxRecDepth 16384
set_option maxHeartbeats 0

noncomputable section

namespace Cert.Ffn

open Cert.KernelIdeal Cert.KernelIdeal.Gen Idealize.ShloMosaic Idealize.ShloMosaic.TcCoe Idealize.ShloMosaic.Tactic

theorem hz2 : (![0, 0] : Fin 2 → Nat) = fun _ => 0 := funext fun a => by fin_cases a <;> rfl
theorem hz3 : (![0, 0, 0] : Fin 3 → Nat) = fun _ => 0 := funext fun a => by fin_cases a <;> rfl

/-- The product of a block of rows with 256 columns of the first weights, at an entry. -/
theorem up_at (X : Vec Ideal S512x1024 .f32) (g : Vec Ideal S1x1024 .f32) (W : Vec Ideal S1024x256 .bf16) (r : Fin 512) (j : Fin 256) :
    k0_pay122 X g W (ix2 r j) = ∑ d, nrm (fun d => g (ix2 0 d)) (fun d => X (ix2 r d)) d * W (ix2 d j) := by
  unfold_payloads
  pointwise [dot_S512x1024_S1024x256_S512x256_1_0_0_1_n_n]
  simp only [nrm, rstd]

/-- What the block's carried rows hold: the product of the block's last sixteen rows with the first weights. -/
def carryOf (X : Vec Ideal S512x1024 .f32) (g : Vec Ideal S1x1024 .f32) (W : Vec Ideal S1024x5632 .bf16) (y : S16x5632.Idx) : EReal :=
  upRow (fun d => g (ix2 0 d)) (fun d j => W (ix2 d j)) (fun d => X (ix2 ⟨496 + (y 0).val, by have : (y 0).val < 16 := (y 0).isLt; omega⟩ d))
    ⟨(y 1).val, (y 1).isLt⟩

theorem carryOf_emb (X : Vec Ideal S512x1024 .f32) (g : Vec Ideal S1x1024 .f32) (W : Vec Ideal S1024x5632 .bf16) (o : ℕ)
    (inb : ∀ a, (![0, o] : Fin 2 → ℕ) a + (![16, 256] : Fin 2 → ℕ) a ≤ S16x5632.size a)
    (x : (Rect.unit (s := S16x5632) ![0, o] ![16, 256] inb).shape.Idx) :
    carryOf X g W ((Rect.unit (s := S16x5632) ![0, o] ![16, 256] inb).emb x)
      = ∑ d, nrm (fun d => g (ix2 0 d)) (fun d => X (ix2 ⟨496 + (x 0).val, by have : (x 0).val < 16 := (x 0).isLt; omega⟩ d)) d
          * W (ix2 d ⟨o + (x 1).val, by have h1 : (x 1).val < 256 := (x 1).isLt; have h2 : o + 256 ≤ 5632 := inb 1; omega⟩) := by
  have e0 : ((Rect.unit (s := S16x5632) ![0, o] ![16, 256] inb).emb x 0).val = (x 0).val :=
    (ValueKit.rect_emb_unit_val (s := S16x5632) _ _ inb x 0).trans (Nat.zero_add _)
  have e1 : ((Rect.unit (s := S16x5632) ![0, o] ![16, 256] inb).emb x 1).val = o + (x 1).val :=
    ValueKit.rect_emb_unit_val (s := S16x5632) _ _ inb x 1
  unfold carryOf upRow
  simp only [e0, e1]

/-- A pending block's rows normalised, time and batch exchanged. -/
def outOf (P : Vec Ideal S512x1024 .f32) (g : Vec Ideal S1x1024 .f32) (y : S8x64x1024.Idx) : EReal :=
  nrm (fun d => g (ix2 0 d)) (fun d => P (ix2 ⟨(y 1).val * 8 + (y 0).val, by
    have : (y 1).val < 64 := (y 1).isLt; have : (y 0).val < 8 := (y 0).isLt; omega⟩ d)) (y 2)

/-- The convolution of a block's row, from the block, the carried rows and the weights. -/
def convOf (X : Vec Ideal S512x1024 .f32) (g : Vec Ideal S1x1024 .f32) (cw : Vec Ideal S3x5632 .f32) (cb : Vec Ideal S1x5632 .f32)
    (C : Vec Ideal S16x5632 .f32) (W : Vec Ideal S1024x5632 .bf16) (r : ℕ) : Fin 5632 → EReal :=
  convBlock (fun k j => cw (ix2 k j)) (fun j => cb (ix2 0 j)) (rows fun q j => C (ix2 q j))
    (rows fun r => upRow (fun d => g (ix2 0 d)) (fun d j => W (ix2 d j)) (fun d => X (ix2 r d))) r

/-- The gated half of a block. -/
def actOf (X : Vec Ideal S512x1024 .f32) (g : Vec Ideal S1x1024 .f32) (cw : Vec Ideal S3x5632 .f32) (cb : Vec Ideal S1x5632 .f32)
    (C : Vec Ideal S16x5632 .f32) (W : Vec Ideal S1024x5632 .bf16) (y : S512x2816.Idx) : EReal :=
  act (convOf X g cw cb C W (y 0).val) ⟨(y 1).val, (y 1).isLt⟩

/-- The block with its gated half times the second weights added. -/
def pendOf (X : Vec Ideal S512x1024 .f32) (g : Vec Ideal S1x1024 .f32) (cw : Vec Ideal S3x5632 .f32) (cb : Vec Ideal S1x5632 .f32)
    (C : Vec Ideal S16x5632 .f32) (W : Vec Ideal S1024x5632 .bf16) (Wd : Vec Ideal S2816x1024 .bf16) (y : S512x1024.Idx) : EReal :=
  ffnRow (fun f d => Wd (ix2 f d)) (fun d => X (ix2 (y 0) d)) (convOf X g cw cb C W (y 0).val) (y 1)

theorem actOf_emb (X : Vec Ideal S512x1024 .f32) (g : Vec Ideal S1x1024 .f32) (cw : Vec Ideal S3x5632 .f32) (cb : Vec Ideal S1x5632 .f32)
    (C : Vec Ideal S16x5632 .f32) (W : Vec Ideal S1024x5632 .bf16) (o : ℕ)
    (inb : ∀ a, (![0, o] : Fin 2 → ℕ) a + (![512, 256] : Fin 2 → ℕ) a ≤ S512x2816.size a)
    (x : (Rect.unit (s := S512x2816) ![0, o] ![512, 256] inb).shape.Idx) :
    actOf X g cw cb C W ((Rect.unit (s := S512x2816) ![0, o] ![512, 256] inb).emb x)
      = act (convOf X g cw cb C W (x 0).val) ⟨o + (x 1).val, by have h1 : (x 1).val < 256 := (x 1).isLt; have h2 : o + 256 ≤ 2816 := inb 1; omega⟩ := by
  have e0 : ((Rect.unit (s := S512x2816) ![0, o] ![512, 256] inb).emb x 0).val = (x 0).val :=
    (ValueKit.rect_emb_unit_val (s := S512x2816) _ _ inb x 0).trans (Nat.zero_add _)
  have e1 : ((Rect.unit (s := S512x2816) ![0, o] ![512, 256] inb).emb x 1).val = o + (x 1).val :=
    ValueKit.rect_emb_unit_val (s := S512x2816) _ _ inb x 1
  unfold actOf
  simp only [e0, e1]

/-- A load of 256 columns of one row of the convolution's weights, at an entry. -/
theorem tap_at (m : Memref sig .tc .vmem S3x5632 .f32) (h : m.IsWhole) (X : Vec Ideal S3x5632 .f32) (o k : ℕ)
    (inb : ∀ a, (![0, o] : Fin 2 → ℕ) a + (![3, 256] : Fin 2 → ℕ) a ≤ S3x5632.size a)
    (inb' : ∀ a, (![k, 0] : Fin 2 → ℕ) a + (![1, 256] : Fin 2 → ℕ) a ≤ S3x256.size a)
    (h0) (j : Fin 256) :
    View.readAt (Elt Ideal) m.view ((Rect.unit (s := S3x5632) ![0, o] ![3, 256] inb).withinL
      (Rect.unit (s := S3x256) ![k, 0] ![1, 256] inb').toLoadRect h0) (h.unread X)
        (ix2 (n0 := 1) (n1 := 256) 0 j)
      = X (ix2 ⟨k, by have h1 : k + 1 ≤ 3 := inb' 0; omega⟩ ⟨o + j.val, by have h2 : o + 256 ≤ 5632 := inb 1; omega⟩) := by
  refine (Memref.IsWhole.readAt_unread (Val := Elt Ideal) h X _ _).trans (congrArg X (funext fun a => ?_))
  fin_cases a
  · refine Fin.ext ?_
    show 0 + k + 1 * 0 = k
    omega
  · refine Fin.ext ?_
    show o + 0 + 1 * j.val = o + j.val
    omega

/-- The convolution of a block's row, its three products written out. -/
theorem convOf_at (X : Vec Ideal S512x1024 .f32) (g : Vec Ideal S1x1024 .f32) (cw : Vec Ideal S3x5632 .f32) (cb : Vec Ideal S1x5632 .f32)
    (C : Vec Ideal S16x5632 .f32) (W : Vec Ideal S1024x5632 .bf16) (r : Fin 512) (j : Fin 5632) :
    convOf X g cw cb C W r.val j
      = ((cw (ix2 0 j) * if h : r.val < 16 then C (ix2 ⟨r.val, h⟩ j) else
              ∑ d, nrm (fun d => g (ix2 0 d)) (fun d => X (ix2 ⟨r.val - 16, by omega⟩ d)) d * W (ix2 d j))
          + cw (ix2 1 j) * if h : 8 + r.val < 16 then C (ix2 ⟨8 + r.val, h⟩ j) else
              ∑ d, nrm (fun d => g (ix2 0 d)) (fun d => X (ix2 ⟨8 + r.val - 16, by omega⟩ d)) d * W (ix2 d j))
        + cw (ix2 2 j) * ∑ d, nrm (fun d => g (ix2 0 d)) (fun d => X (ix2 r d)) d * W (ix2 d j)
        + cb (ix2 0 j) := by
  have hU : ∀ q (hq : q < 512), rows (fun r => upRow (fun d => g (ix2 0 d)) (fun d j => W (ix2 d j)) (fun d => X (ix2 r d))) q j
      = ∑ d, nrm (fun d => g (ix2 0 d)) (fun d => X (ix2 ⟨q, hq⟩ d)) d * W (ix2 d j) := fun q hq => by
    rw [rows_of_lt _ hq]; rfl
  have hE : ∀ q (hq : q < 528), ext (rows fun q j => C (ix2 q j))
      (rows fun r => upRow (fun d => g (ix2 0 d)) (fun d j => W (ix2 d j)) (fun d => X (ix2 r d))) q j
      = if h : q < 16 then C (ix2 ⟨q, h⟩ j) else
              ∑ d, nrm (fun d => g (ix2 0 d)) (fun d => X (ix2 ⟨q - 16, by omega⟩ d)) d * W (ix2 d j) := fun q hq => by
    unfold ext
    split
    · rename_i h; rw [rows_of_lt _ h]
    · exact hU (q - 16) (by omega)
  unfold convOf convBlock conv
  rw [hE r.val (by omega), hE (8 + r.val) (by omega), hE (16 + r.val) (by omega), dif_neg (show ¬ 16 + r.val < 16 by omega)]
  simp only [Nat.add_sub_cancel_left]

section
variable (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S3x5632 .f32) (harg4 : arg4.IsWhole) (arg5 : Memref sig .tc .vmem S1x5632 .f32) (harg5 : arg5.IsWhole) (arg7 : Memref sig .tc .vmem S1x1024 .f32) (harg7 : arg7.IsWhole) (arg8 : Memref sig .tc .vmem S8x64x1024 .f32) (harg8 : arg8.IsWhole) (arg9 : Memref sig .tc .vmem S16x5632 .f32) (harg9 : arg9.IsWhole) (arg10 : Memref sig .tc .vmem S512x2816 .bf16) (harg10 : arg10.IsWhole) (arg11 : Memref sig .tc .vmem S512x1024 .f32) (harg11 : arg11.IsWhole) (arg12 : Memref sig .tc .vmem S1024x5632 .bf16) (harg12 : arg12.IsWhole) (arg13 : Memref sig .tc .vmem S2816x1024 .bf16) (harg13 : arg13.IsWhole) (alloca_r0 : Memref sig .tc .vmem S8x64x5632 .f32) (halloca_r0 : alloca_r0.IsWhole) (alloca_r1 : Memref sig .tc .vmem S8x352x1024 .f32) (halloca_r1 : alloca_r1.IsWhole) (hc0 : ¬cond0_0 i) (hc1 : cond0_1 i) (hc2 : ¬cond0_2 i)
  (x0 : Vec Ideal S512x1024 .f32) (x1 : Vec Ideal S1x1024 .f32) (x2 : Vec Ideal S3x5632 .f32) (x3 : Vec Ideal S1x5632 .f32) (x4 : Vec Ideal S1x1024 .f32) (xs0 : Vec Ideal S16x5632 .f32) (xs2 : Vec Ideal S512x1024 .f32) (xs3 : Vec Ideal S1024x5632 .bf16) (xs4 : Vec Ideal S2816x1024 .bf16) (fh0 : HbBuf0 (F := Ideal) c hbM0_0) (fh1 : HbBuf0 (F := Ideal) c hbM0_1)

theorem carryB : sout0_B_0 c i arg1 harg1 arg2 harg2 arg4 harg4 arg5 harg5 arg7 harg7 arg8 harg8 arg9 harg9 arg10 harg10 arg11 harg11 arg12 harg12 arg13 harg13 alloca_r0 halloca_r0 alloca_r1 halloca_r1 hc0 hc1 hc2 x0 x1 x2 x3 x4 xs0 xs2 xs3 xs4 fh0 fh1 = carryOf x0 x1 xs3 := by
  funext y
  unfold sout0_B_0
  rw [View.read_writes_eq_canon _ _ _ (scover0_B_0 c i arg1 harg1 arg2 harg2 arg4 harg4 arg5 harg5 arg7 harg7 arg8 harg8 arg9 harg9 arg10 harg10 arg11 harg11 arg12 harg12 arg13 harg13 alloca_r0 halloca_r0 alloca_r1 halloca_r1 hc0 hc1 hc2 x0 x1 x2 x3 x4 xs0 xs2 xs3 xs4 fh0 fh1)]
  refine View.canon_apply_of_pieces (carryOf x0 x1 xs3) _ ?_ y (scover0_B_0 c i arg1 harg1 arg2 harg2 arg4 harg4 arg5 harg5 arg7 harg7 arg8 harg8 arg9 harg9 arg10 harg10 arg11 harg11 arg12 harg12 arg13 harg13 alloca_r0 halloca_r0 alloca_r1 halloca_r1 hc0 hc1 hc2 x0 x1 x2 x3 x4 xs0 xs2 xs3 xs4 fh0 fh1 y)
  unfold kernelRun0_B
  dsimp only
  sl_unfold_words
  simp only [View.readAt_eq_ld, harg1.read_unread, harg2.read_unread, harg12.read_unread]
  simp only [List.forall_mem_cons]
  repeat' apply And.intro
  all_goals first | exact fun _ h => absurd h (List.not_mem_nil) | skip
  all_goals
    intro x
    refine Eq.trans ?_ (carryOf_emb x0 x1 xs3 _ _ x).symm
    unfold_payloads
    pointwise [dot_S512x1024_S1024x256_S512x256_1_0_0_1_n_n]
    simp only [nrm, rstd]

/-- The block written out: the pending block's rows normalised, time and batch exchanged. -/
theorem outB (y : S8x64x1024.Idx) : out0_B_5 c i arg1 harg1 arg2 harg2 arg4 harg4 arg5 harg5 arg7 harg7 arg8 harg8 arg9 harg9 arg10 harg10 arg11 harg11 arg12 harg12 arg13 harg13 alloca_r0 halloca_r0 alloca_r1 halloca_r1 hc0 hc1 hc2 x0 x1 x2 x3 x4 xs0 xs2 xs3 xs4 fh0 fh1 y = outOf xs2 x4 y := by
  unfold out0_B_5
  rw [View.read_writes_eq_canon _ _ _ (cover0_B_5 c i arg1 harg1 arg2 harg2 arg4 harg4 arg5 harg5 arg7 harg7 arg8 harg8 arg9 harg9 arg10 harg10 arg11 harg11 arg12 harg12 arg13 harg13 alloca_r0 halloca_r0 alloca_r1 halloca_r1 hc0 hc1 hc2 x0 x1 x2 x3 x4 xs0 xs2 xs3 xs4 fh0 fh1)]
  unfold kernelRun0_B
  dsimp only
  sl_unfold_words
  rw [View.canon_unit_zero hz3]
  simp only [View.readAt_eq_ld, harg7.read_unread, harg11.read_unread]
  unfold_payloads
  pointwise
  simp only [outOf, nrm, rstd]

/-- The pending block: each row plus its gated half times the second weights. -/
theorem pendB : sout0_B_2 c i arg1 harg1 arg2 harg2 arg4 harg4 arg5 harg5 arg7 harg7 arg8 harg8 arg9 harg9 arg10 harg10 arg11 harg11 arg12 harg12 arg13 harg13 alloca_r0 halloca_r0 alloca_r1 halloca_r1 hc0 hc1 hc2 x0 x1 x2 x3 x4 xs0 xs2 xs3 xs4 fh0 fh1 = pendOf x0 x1 x2 x3 xs0 xs3 xs4 := by
  funext y
  obtain ⟨r, d, rfl⟩ : ∃ r d, y = ix2 r d := ⟨y 0, y 1, funext fun a => by fin_cases a <;> rfl⟩
  unfold sout0_B_2
  rw [View.read_writes_eq_canon _ _ _ (scover0_B_2 c i arg1 harg1 arg2 harg2 arg4 harg4 arg5 harg5 arg7 harg7 arg8 harg8 arg9 harg9 arg10 harg10 arg11 harg11 arg12 harg12 arg13 harg13 alloca_r0 halloca_r0 alloca_r1 halloca_r1 hc0 hc1 hc2 x0 x1 x2 x3 x4 xs0 xs2 xs3 xs4 fh0 fh1)]
  unfold kernelRun0_B
  dsimp only
  sl_unfold_words
  rw [View.canon_unit_zero hz2]
  refine (congrArg (fun A : Vec Ideal S512x2816 .bf16 => k0_pay3 (F := Ideal) _ A _ _ (ix2 r d)) (a₂ := actOf x0 x1 x2 x3 xs0 xs3) ?_).trans ?_
  · refine (View.readCov_eq_canon_ld (Val := Elt Ideal) _ _ _ ?_).trans ?_
    · exact View.cover_of_tiledL _ S512x256.size (by sl_kernel_rfl)
    refine (View.ld_unit_zero hz2 _ _).trans ?_
    funext y
    refine View.canon_apply_of_pieces (Val := Elt Ideal) (e := .bf16) (actOf x0 x1 x2 x3 xs0 xs3) _ ?_ y ?_
    rotate_left
    · exact View.cover_of_tiledL (s := S512x2816) _ S512x256.size (by sl_kernel_rfl) y
    simp only [View.readAt_eq_ld, harg1.read_unread, harg2.read_unread, harg4.read_unread, harg5.read_unread, harg9.read_unread, harg12.read_unread]
    simp only [List.forall_mem_cons]
    repeat' apply And.intro
    all_goals first | exact fun _ h => absurd h (List.not_mem_nil) | skip
    all_goals
      intro x
      obtain ⟨a, b, rfl⟩ : ∃ (a : Fin 512) (b : Fin 256), x = ix2 a b := ⟨x 0, x 1, by funext i; fin_cases i <;> rfl⟩
      refine Eq.trans ?_ (actOf_emb x0 x1 x2 x3 xs0 xs3 _ _ (ix2 a b)).symm
      unfold_payloads
      pointwise [dot_S512x1024_S1024x256_S512x256_1_0_0_1_n_n]
      simp only [tap_at]
      simp only [act, convOf_at x0 x1 x2 x3 xs0 xs3 a]
      simp only [nrm, rstd, Nat.zero_add, ← Nat.add_assoc, Nat.reduceAdd, Fin.zero_eta, Fin.mk_one, Fin.reduceFinMk]
  simp only [View.readAt_eq_ld, harg1.read_unread, harg13.read_unread]
  unfold_payloads
  pointwise [dot_S512x2816_S2816x1024_S512x1024_1_0_0_1_n_n]
  rfl
end

end Cert.Ffn

end

end
-- ==== Proof.Ffn.ValueA.lean ====
/- What the body writes at the last grid point, as numbers: the pending block, normalised. -/
module

public import proofs.«01_k».proof.Proof.Ffn.OutsA
public import proofs.«01_k».proof.Proof.Ffn.ValueB
public import Idealize.ShloMosaic.Lib.Pipeline.CanonAppend
public import Idealize.ShloMosaic.Lib.Pipeline.Value
public import Idealize.ShloMosaic.Lib.Pipeline.ValueKit
public import Idealize.ShloMosaic.Lib.WholeRead

@[expose] public section

set_option maxRecDepth 16384
set_option maxHeartbeats 0

noncomputable section

namespace Cert.Ffn

open Cert.KernelIdeal Cert.KernelIdeal.Gen Idealize.ShloMosaic Idealize.ShloMosaic.TcCoe Idealize.ShloMosaic.Tactic

/-- What the first point carries: the product of rows 112 to 127 of its block with the first weights. -/
def firstOf (X : Vec Ideal S512x1024 .f32) (g : Vec Ideal S1x1024 .f32) (W : Vec Ideal S1024x5632 .bf16) (y : S16x5632.Idx) : EReal :=
  upRow (fun d => g (ix2 0 d)) (fun d j => W (ix2 d j)) (fun d => X (ix2 ⟨112 + (y 0).val, by have : (y 0).val < 16 := (y 0).isLt; omega⟩ d))
    ⟨(y 1).val, (y 1).isLt⟩

theorem firstOf_emb (X : Vec Ideal S512x1024 .f32) (g : Vec Ideal S1x1024 .f32) (W : Vec Ideal S1024x5632 .bf16) (o : ℕ)
    (inb : ∀ a, (![0, o] : Fin 2 → ℕ) a + (![16, 256] : Fin 2 → ℕ) a ≤ S16x5632.size a)
    (x : (Rect.unit (s := S16x5632) ![0, o] ![16, 256] inb).shape.Idx) :
    firstOf X g W ((Rect.unit (s := S16x5632) ![0, o] ![16, 256] inb).emb x)
      = ∑ d, nrm (fun d => g (ix2 0 d)) (fun d => X (ix2 ⟨112 + (x 0).val, by have : (x 0).val < 16 := (x 0).isLt; omega⟩ d)) d
          * W (ix2 d ⟨o + (x 1).val, by have h1 : (x 1).val < 256 := (x 1).isLt; have h2 : o + 256 ≤ 5632 := inb 1; omega⟩) := by
  have e0 : ((Rect.unit (s := S16x5632) ![0, o] ![16, 256] inb).emb x 0).val = (x 0).val :=
    (ValueKit.rect_emb_unit_val (s := S16x5632) _ _ inb x 0).trans (Nat.zero_add _)
  have e1 : ((Rect.unit (s := S16x5632) ![0, o] ![16, 256] inb).emb x 1).val = o + (x 1).val :=
    ValueKit.rect_emb_unit_val (s := S16x5632) _ _ inb x 1
  unfold firstOf upRow
  simp only [e0, e1]

/-- What stores leave where the last few of them cover, when those agree with one function. -/
theorem canon_take (n : ℕ) (G : Vec Ideal S16x5632 .f32) (L : List (View.Piece (Elt Ideal) S16x5632 .f32))
    (h : ∀ p ∈ L.take n, ∀ x : p.1.shape.Idx, p.2 x = G (p.1.emb x)) (y : S16x5632.Idx) (hy : ∃ p ∈ L.take n, y ∈ p.1.set) :
    View.canon L y = G y := by
  rw [← List.take_append_drop n L]
  exact View.canon_append_of_pieces G _ _ h y hy

section
variable (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S3x5632 .f32) (harg4 : arg4.IsWhole) (arg5 : Memref sig .tc .vmem S1x5632 .f32) (harg5 : arg5.IsWhole) (arg7 : Memref sig .tc .vmem S1x1024 .f32) (harg7 : arg7.IsWhole) (arg8 : Memref sig .tc .vmem S8x64x1024 .f32) (harg8 : arg8.IsWhole) (arg9 : Memref sig .tc .vmem S16x5632 .f32) (harg9 : arg9.IsWhole) (arg10 : Memref sig .tc .vmem S512x2816 .bf16) (harg10 : arg10.IsWhole) (arg11 : Memref sig .tc .vmem S512x1024 .f32) (harg11 : arg11.IsWhole) (arg12 : Memref sig .tc .vmem S1024x5632 .bf16) (harg12 : arg12.IsWhole) (arg13 : Memref sig .tc .vmem S2816x1024 .bf16) (harg13 : arg13.IsWhole) (alloca_r0 : Memref sig .tc .vmem S8x64x5632 .f32) (halloca_r0 : alloca_r0.IsWhole) (alloca_r1 : Memref sig .tc .vmem S8x352x1024 .f32) (halloca_r1 : alloca_r1.IsWhole) (hc0 : cond0_0 i) (hc1 : ¬cond0_1 i) (hc2 : ¬cond0_2 i)
    (x0 : Vec Ideal S512x1024 .f32) (x1 : Vec Ideal S1x1024 .f32) (x2 : Vec Ideal S3x5632 .f32) (x3 : Vec Ideal S1x5632 .f32) (x4 : Vec Ideal S1x1024 .f32) (fh0 : HbBuf0 (F := Ideal) c hbM0_0) (fh1 : HbBuf0 (F := Ideal) c hbM0_1)

/-- The carried rows after the first point. -/
theorem carryA : sout0_A_0 c i arg1 harg1 arg2 harg2 arg4 harg4 arg5 harg5 arg7 harg7 arg8 harg8 arg9 harg9 arg10 harg10 arg11 harg11 arg12 harg12 arg13 harg13 alloca_r0 halloca_r0 alloca_r1 halloca_r1 hc0 hc1 hc2 x0 x1 x2 x3 x4 fh0 fh1 = firstOf x0 x1 (wUp c fh0) := by
  funext y
  unfold sout0_A_0
  rw [View.read_writes_eq_canon _ _ _ (scover0_A_0 c i arg1 harg1 arg2 harg2 arg4 harg4 arg5 harg5 arg7 harg7 arg8 harg8 arg9 harg9 arg10 harg10 arg11 harg11 arg12 harg12 arg13 harg13 alloca_r0 halloca_r0 alloca_r1 halloca_r1 hc0 hc1 hc2 x0 x1 x2 x3 x4 fh0 fh1)]
  unfold kernelRun0_A
  dsimp only
  refine canon_take 22 (firstOf x0 x1 (wUp c fh0)) _ ?_ y (View.cover_of_tiledL (s := S16x5632) _ S16x256.size (by sl_kernel_rfl) y)
  sl_unfold_words
  simp only [List.take_succ_cons, List.take_zero]
  simp only [View.readAt_eq_ld, harg1.read_unread, harg2.read_unread, harg12.read_unread]
  simp only [List.forall_mem_cons]
  repeat' apply And.intro
  all_goals first | exact fun _ h => absurd h (List.not_mem_nil) | skip
  all_goals
    intro x
    refine Eq.trans ?_ (firstOf_emb x0 x1 (wUp c fh0) _ _ x).symm
    unfold_payloads
    pointwise [dot_S128x1024_S1024x256_S128x256_1_0_0_1_n_n]
    simp only [nrm, rstd]

end

end Cert.Ffn

end

end
-- ==== Proof.Ffn.ValueC.lean ====
/- What the body writes at the last grid point, as numbers: the pending block, normalised. -/
module

public import proofs.«01_k».proof.Proof.Ffn.OutsC
public import proofs.«01_k».proof.Proof.Ffn.ValueB
public import Idealize.ShloMosaic.Lib.Pipeline.Value
public import Idealize.ShloMosaic.Lib.Pipeline.ValueKit
public import Idealize.ShloMosaic.Lib.WholeRead

@[expose] public section

set_option maxRecDepth 16384
set_option maxHeartbeats 0

noncomputable section

namespace Cert.Ffn

open Cert.KernelIdeal Cert.KernelIdeal.Gen Idealize.ShloMosaic Idealize.ShloMosaic.TcCoe Idealize.ShloMosaic.Tactic

section
variable (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S3x5632 .f32) (harg4 : arg4.IsWhole) (arg5 : Memref sig .tc .vmem S1x5632 .f32) (harg5 : arg5.IsWhole) (arg7 : Memref sig .tc .vmem S1x1024 .f32) (harg7 : arg7.IsWhole) (arg8 : Memref sig .tc .vmem S8x64x1024 .f32) (harg8 : arg8.IsWhole) (arg9 : Memref sig .tc .vmem S16x5632 .f32) (harg9 : arg9.IsWhole) (arg10 : Memref sig .tc .vmem S512x2816 .bf16) (harg10 : arg10.IsWhole) (arg11 : Memref sig .tc .vmem S512x1024 .f32) (harg11 : arg11.IsWhole) (arg12 : Memref sig .tc .vmem S1024x5632 .bf16) (harg12 : arg12.IsWhole) (arg13 : Memref sig .tc .vmem S2816x1024 .bf16) (harg13 : arg13.IsWhole) (alloca_r0 : Memref sig .tc .vmem S8x64x5632 .f32) (halloca_r0 : alloca_r0.IsWhole) (alloca_r1 : Memref sig .tc .vmem S8x352x1024 .f32) (halloca_r1 : alloca_r1.IsWhole) (hc0 : ¬cond0_0 i) (hc1 : ¬cond0_1 i) (hc2 : cond0_2 i)
    (x0 : Vec Ideal S512x1024 .f32) (x1 : Vec Ideal S1x1024 .f32) (x2 : Vec Ideal S3x5632 .f32) (x3 : Vec Ideal S1x5632 .f32) (x4 : Vec Ideal S1x1024 .f32) (xs0 : Vec Ideal S16x5632 .f32) (xs2 : Vec Ideal S512x1024 .f32) (xs3 : Vec Ideal S1024x5632 .bf16) (xs4 : Vec Ideal S2816x1024 .bf16) (fh0 : HbBuf0 (F := Ideal) c hbM0_0) (fh1 : HbBuf0 (F := Ideal) c hbM0_1)

/-- The block written out: the pending block's rows normalised, time and batch exchanged. -/
theorem outC (y : S8x64x1024.Idx) : out0_C_5 c i arg1 harg1 arg2 harg2 arg4 harg4 arg5 harg5 arg7 harg7 arg8 harg8 arg9 harg9 arg10 harg10 arg11 harg11 arg12 harg12 arg13 harg13 alloca_r0 halloca_r0 alloca_r1 halloca_r1 hc0 hc1 hc2 x0 x1 x2 x3 x4 xs0 xs2 xs3 xs4 fh0 fh1 y = outOf xs2 x4 y := by
  unfold out0_C_5
  rw [View.read_writes_eq_canon _ _ _ (cover0_C_5 c i arg1 harg1 arg2 harg2 arg4 harg4 arg5 harg5 arg7 harg7 arg8 harg8 arg9 harg9 arg10 harg10 arg11 harg11 arg12 harg12 arg13 harg13 alloca_r0 halloca_r0 alloca_r1 halloca_r1 hc0 hc1 hc2 x0 x1 x2 x3 x4 xs0 xs2 xs3 xs4 fh0 fh1)]
  unfold kernelRun0_C
  dsimp only
  sl_unfold_words
  rw [View.canon_unit_zero hz3]
  simp only [View.readAt_eq_ld, harg7.read_unread, harg11.read_unread]
  unfold_payloads
  pointwise
  simp only [outOf, nrm, rstd]

end

end Cert.Ffn

end

end
-- ==== Proof.Ffn.Host.lean ====
/- The arrays the kernel is entered with, and the windows' blocks of them, at an index. -/
module

public import proofs.«01_k».proof.Proof.Gen.KernelIdeal.Frame.Runs
public import proofs.«01_k».proof.Proof.Ffn.Spec
public import Idealize.ShloMosaic.Lib.IdealHost

@[expose] public section

set_option maxRecDepth 16384
set_option maxHeartbeats 1000000

noncomputable section

namespace Cert.Ffn

open Cert.KernelIdeal Cert.KernelIdeal.Gen Idealize.ShloMosaic Idealize.ShloMosaic.TcCoe Idealize.SL.Sem

variable (m : (ℓ : Loc nD τ sig) → Buf (Elt Ideal) ℓ) (c : Dev nD)

/-- The rows in time-major order. -/
theorem V_v1 : (V m c main_v1 : Vec Ideal S16512x1024 .f32)
    = shapeCast _ (transpose S2064x8x1024 [1, 0, 2] (m ((c : Thread nD τ).loc main_arg0) : Vec Ideal S8x2064x1024 .f32) transposes_S8x2064x1024_S2064x8x1024_1_0_2) shapeCasts_S2064x8x1024_S16512x1024 := by
  show StableHlo.after hostOps0 _ (Proc.devRef .tc main_v1) = _
  after_results
  rfl

/-- The rows with the gap after the first sixteen times. -/
theorem V_v5 : (V m c main_v5 : Vec Ideal S16896x1024 .f32)
    = concatenate (α := Ideal .f32) S16896x1024 0 [⟨S128x1024, extractStridedSlice S128x1024 ![0, 0] (V m c main_v1 : Vec Ideal S16512x1024 .f32) slices_S16512x1024_S128x1024_0_0⟩,
        ⟨S384x1024, broadcastInDim S384x1024 ![] bcast_S_S384x1024 (constant S_ .f32 0x00000000#32 : FVec Ideal S_ .f32)⟩,
        ⟨S16384x1024, extractStridedSlice S16384x1024 ![128, 0] (V m c main_v1 : Vec Ideal S16512x1024 .f32) slices_S16512x1024_S16384x1024_128_0⟩] concatenates_S128x1024_S384x1024_S16384x1024_S16896x1024_d0 := by
  rw [V_v1]
  show StableHlo.after hostOps0 _ (Proc.devRef .tc main_v5) = _
  after_results
  rfl

/-- Row `8 T + b` in time-major order is time `T` of batch entry `b`. -/
theorem v1_at (R : Fin 16512) (d : Fin 1024) :
    (V m c main_v1 : Vec Ideal S16512x1024 .f32) (ix2 R d)
      = (m ((c : Thread nD τ).loc main_arg0) : Vec Ideal S8x2064x1024 .f32) (ix3 ⟨R.val % 8, Nat.mod_lt _ (by omega)⟩ ⟨R.val / 8, by have := R.isLt; omega⟩ d) := by
  rw [V_v1]
  refine (shapeCast_apply _ shapeCasts_S2064x8x1024_S16512x1024 (ix2 R d) (ix3 ⟨R.val / 8, by have := R.isLt; omega⟩ ⟨R.val % 8, Nat.mod_lt _ (by omega)⟩ d) ?_).trans ?_
  · rw [Shape.rowMajor_val_three, Shape.rowMajor_val_two]
    show (R.val / 8 * 8 + R.val % 8) * 1024 + d.val = R.val * 1024 + d.val
    omega
  · unfold transpose
    refine congrArg _ (funext fun a => ?_)
    fin_cases a <;> rfl

/-- The first 128 rows. -/
theorem v5_lo (R : Fin 16896) (d : Fin 1024) (h : R.val < 128) :
    (V m c main_v5 : Vec Ideal S16896x1024 .f32) (ix2 R d)
      = (m ((c : Thread nD τ).loc main_arg0) : Vec Ideal S8x2064x1024 .f32) (ix3 ⟨R.val % 8, Nat.mod_lt _ (by omega)⟩ ⟨R.val / 8, by omega⟩ d) := by
  rw [V_v5]
  pointwise
  rw [dif_pos (by simpa using h)]
  refine (congrArg (V m c main_v1 : Vec Ideal S16512x1024 .f32) (?_ : _ = ix2 (⟨R.val, by omega⟩ : Fin 16512) d)).trans (v1_at m c _ d)
  funext a
  fin_cases a <;> refine Fin.ext ?_ <;> simp [ix2]

/-- The rows after the gap. -/
theorem v5_hi (R : Fin 16896) (d : Fin 1024) (h : 512 ≤ R.val) :
    (V m c main_v5 : Vec Ideal S16896x1024 .f32) (ix2 R d)
      = (m ((c : Thread nD τ).loc main_arg0) : Vec Ideal S8x2064x1024 .f32) (ix3 ⟨(R.val - 384) % 8, Nat.mod_lt _ (by omega)⟩ ⟨(R.val - 384) / 8, by have := R.isLt; omega⟩ d) := by
  have hR := R.isLt
  rw [V_v5]
  pointwise
  rw [dif_neg (by simpa using (by omega : 128 ≤ R.val)), dif_neg (by simp; omega)]
  refine (congrArg (V m c main_v1 : Vec Ideal S16512x1024 .f32) (?_ : _ = ix2 (⟨R.val - 384, by omega⟩ : Fin 16512) d)).trans (v1_at m c _ d)
  funext a
  fin_cases a <;> refine Fin.ext ?_ <;> simp [ix2] <;> omega

/-- The normalisation's weights as a row. -/
theorem v7_at (d : Fin 1024) : (V m c main_v7 : Vec Ideal S1x1024 .f32) (ix2 0 d) = (m ((c : Thread nD τ).loc main_arg1) : Vec Ideal S1x1024 .f32) (ix2 0 d) := by
  have e : (V m c main_v7 : Vec Ideal S1x1024 .f32) = shapeCast S1x1024 (shapeCast S1024 (m ((c : Thread nD τ).loc main_arg1) : Vec Ideal S1x1024 .f32) shapeCasts_S1x1024_S1024) shapeCasts_S1024_S1x1024 := by
    show StableHlo.after hostOps0 _ (Proc.devRef .tc main_v7) = _
    after_results
    rfl
  rw [e]; pointwise

/-- The first weights. -/
theorem v8_at (k : Fin 1024) (j : Fin 5632) : (V m c main_v8 : Vec Ideal S1024x5632 .f32) (ix2 k j) = (m ((c : Thread nD τ).loc main_arg2) : Vec Ideal S1x1024x5632 .f32) (ix3 0 k j) := by
  have e : (V m c main_v8 : Vec Ideal S1024x5632 .f32) = shapeCast S1024x5632 (m ((c : Thread nD τ).loc main_arg2) : Vec Ideal S1x1024x5632 .f32) shapeCasts_S1x1024x5632_S1024x5632 := by
    show StableHlo.after hostOps0 _ (Proc.devRef .tc main_v8) = _
    after_results
    rfl
  rw [e]
  refine shapeCast_apply _ shapeCasts_S1x1024x5632_S1024x5632 (ix2 k j) (ix3 0 k j) ?_
  rw [Shape.rowMajor_val_three, Shape.rowMajor_val_two]
  show (0 * 1024 + k.val) * 5632 + j.val = k.val * 5632 + j.val
  omega

/-- The convolution's taps. -/
theorem v9_at (k : Fin 3) (j : Fin 5632) : (V m c main_v9 : Vec Ideal S3x5632 .f32) (ix2 k j) = (m ((c : Thread nD τ).loc main_arg3) : Vec Ideal S1x3x5632 .f32) (ix3 0 k j) := by
  have e : (V m c main_v9 : Vec Ideal S3x5632 .f32) = shapeCast S3x5632 (m ((c : Thread nD τ).loc main_arg3) : Vec Ideal S1x3x5632 .f32) shapeCasts_S1x3x5632_S3x5632 := by
    show StableHlo.after hostOps0 _ (Proc.devRef .tc main_v9) = _
    after_results
    rfl
  rw [e]
  refine shapeCast_apply _ shapeCasts_S1x3x5632_S3x5632 (ix2 k j) (ix3 0 k j) ?_
  rw [Shape.rowMajor_val_three, Shape.rowMajor_val_two]
  show (0 * 3 + k.val) * 5632 + j.val = k.val * 5632 + j.val
  omega

/-- The convolution's bias as a row. -/
theorem v11_at (j : Fin 5632) : (V m c main_v11 : Vec Ideal S1x5632 .f32) (ix2 0 j) = (m ((c : Thread nD τ).loc main_arg4) : Vec Ideal S1x5632 .f32) (ix2 0 j) := by
  have e : (V m c main_v11 : Vec Ideal S1x5632 .f32) = shapeCast S1x5632 (shapeCast S5632 (m ((c : Thread nD τ).loc main_arg4) : Vec Ideal S1x5632 .f32) shapeCasts_S1x5632_S5632) shapeCasts_S5632_S1x5632 := by
    show StableHlo.after hostOps0 _ (Proc.devRef .tc main_v11) = _
    after_results
    rfl
  rw [e]; pointwise

/-- The second weights. -/
theorem v12_at (f : Fin 2816) (d : Fin 1024) : (V m c main_v12 : Vec Ideal S2816x1024 .f32) (ix2 f d) = (m ((c : Thread nD τ).loc main_arg5) : Vec Ideal S1x2816x1024 .f32) (ix3 0 f d) := by
  have e : (V m c main_v12 : Vec Ideal S2816x1024 .f32) = shapeCast S2816x1024 (m ((c : Thread nD τ).loc main_arg5) : Vec Ideal S1x2816x1024 .f32) shapeCasts_S1x2816x1024_S2816x1024 := by
    show StableHlo.after hostOps0 _ (Proc.devRef .tc main_v12) = _
    after_results
    rfl
  rw [e]
  refine shapeCast_apply _ shapeCasts_S1x2816x1024_S2816x1024 (ix2 f d) (ix3 0 f d) ?_
  rw [Shape.rowMajor_val_three, Shape.rowMajor_val_two]
  show (0 * 2816 + f.val) * 1024 + d.val = f.val * 1024 + d.val
  omega

/-- The last normalisation's weights as a row. -/
theorem v13_at (d : Fin 1024) : (V m c main_v13 : Vec Ideal S1x1024 .f32) (ix2 0 d) = (m ((c : Thread nD τ).loc main_arg6) : Vec Ideal S1024 .f32) (ix1 d) := by
  have e : (V m c main_v13 : Vec Ideal S1x1024 .f32) = shapeCast S1x1024 (m ((c : Thread nD τ).loc main_arg6) : Vec Ideal S1024 .f32) shapeCasts_S1024_S1x1024 := by
    show StableHlo.after hostOps0 _ (Proc.devRef .tc main_v13) = _
    after_results
    rfl
  rw [e]
  refine shapeCast_apply _ shapeCasts_S1024_S1x1024 (ix2 0 d) (ix1 d) ?_
  rw [Shape.rowMajor_val_one, Shape.rowMajor_val_two]
  show d.val = 0 * 1024 + d.val
  omega

/-! ## The windows' blocks -/

/-- Point `t` stages block `min t 32` of the rows. -/
theorem index0 : ∀ t : Fin grid0.N, win0_0.index t 0 = min t.val 32 ∧ win0_0.index t 1 = 0 := by decide +kernel

/-- The rows' block at an index. -/
theorem iblk0_at (t : Fin cfg0.N) (r : Fin 512) (d : Fin 1024) (R : Fin 16896) (hR : R.val = 512 * min t.val 32 + r.val) :
    (iblk m c 0 t : Vec Ideal S512x1024 .f32) (ix2 r d) = (V m c main_v5 : Vec Ideal S16896x1024 .f32) (ix2 R d) := by
  unfold iblk
  rw [View.read_apply]
  show V m c main_v5 _ = V m c main_v5 _
  congr 1
  funext a
  apply Fin.ext
  have hi := index0 t
  match a with
  | ⟨0, _⟩ => show win0_0.index t 0 * 512 + 1 * r.val = R.val; rw [hi.1, hR]; omega
  | ⟨1, _⟩ => show win0_0.index t 1 * 1024 + 1 * d.val = d.val; rw [hi.2, Nat.zero_mul, Nat.zero_add, Nat.one_mul]

/-- The whole-array windows' block indices are zero. -/
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel

/-- The first weights' row block. -/
theorem iblk1_at (t : Fin cfg0.N) (d : Fin 1024) :
    (iblk m c 1 t : Vec Ideal S1x1024 .f32) (ix2 0 d) = (m ((c : Thread nD τ).loc main_arg1) : Vec Ideal S1x1024 .f32) (ix2 0 d) := by
  rw [← v7_at m c d]
  unfold iblk
  rw [View.read_apply]
  show V m c main_v7 _ = V m c main_v7 _
  congr 1
  funext a
  apply Fin.ext
  have hi := index1 t
  match a with
  | ⟨0, _⟩ => show win0_1.index t 0 * 1 + 1 * 0 = 0; rw [hi.1]
  | ⟨1, _⟩ => show win0_1.index t 1 * 1024 + 1 * d.val = d.val; rw [hi.2, Nat.zero_mul, Nat.zero_add, Nat.one_mul]

/-- The taps' block. -/
theorem iblk2_at (t : Fin cfg0.N) (k : Fin 3) (j : Fin 5632) :
    (iblk m c 2 t : Vec Ideal S3x5632 .f32) (ix2 k j) = (m ((c : Thread nD τ).loc main_arg3) : Vec Ideal S1x3x5632 .f32) (ix3 0 k j) := by
  rw [← v9_at m c k j]
  unfold iblk
  rw [View.read_apply]
  show V m c main_v9 _ = V m c main_v9 _
  congr 1
  funext a
  apply Fin.ext
  have hi := index2 t
  match a with
  | ⟨0, _⟩ => show win0_2.index t 0 * 3 + 1 * k.val = k.val; rw [hi.1, Nat.zero_mul, Nat.zero_add, Nat.one_mul]
  | ⟨1, _⟩ => show win0_2.index t 1 * 5632 + 1 * j.val = j.val; rw [hi.2, Nat.zero_mul, Nat.zero_add, Nat.one_mul]

/-- The bias' block. -/
theorem iblk3_at (t : Fin cfg0.N) (j : Fin 5632) :
    (iblk m c 3 t : Vec Ideal S1x5632 .f32) (ix2 0 j) = (m ((c : Thread nD τ).loc main_arg4) : Vec Ideal S1x5632 .f32) (ix2 0 j) := by
  rw [← v11_at m c j]
  unfold iblk
  rw [View.read_apply]
  show V m c main_v11 _ = V m c main_v11 _
  congr 1
  funext a
  apply Fin.ext
  have hi := index3 t
  match a with
  | ⟨0, _⟩ => show win0_3.index t 0 * 1 + 1 * 0 = 0; rw [hi.1]
  | ⟨1, _⟩ => show win0_3.index t 1 * 5632 + 1 * j.val = j.val; rw [hi.2, Nat.zero_mul, Nat.zero_add, Nat.one_mul]

/-- The last weights' block. -/
theorem iblk4_at (t : Fin cfg0.N) (d : Fin 1024) :
    (iblk m c 4 t : Vec Ideal S1x1024 .f32) (ix2 0 d) = (m ((c : Thread nD τ).loc main_arg6) : Vec Ideal S1024 .f32) (ix1 d) := by
  rw [← v13_at m c d]
  unfold iblk
  rw [View.read_apply]
  show V m c main_v13 _ = V m c main_v13 _
  congr 1
  funext a
  apply Fin.ext
  have hi := index4 t
  match a with
  | ⟨0, _⟩ => show win0_4.index t 0 * 1 + 1 * 0 = 0; rw [hi.1]
  | ⟨1, _⟩ => show win0_4.index t 1 * 1024 + 1 * d.val = d.val; rw [hi.2, Nat.zero_mul, Nat.zero_add, Nat.one_mul]

end Cert.Ffn

end

end
-- ==== Proof.Ffn.Ref.lean ====
/- The reference at an index: every entry of its result from the rows of the input it depends on. -/
module

public import proofs.«01_k».proof.Proof.Gen.ReferenceIdeal.Read
public import proofs.«01_k».proof.Proof.Ffn.Spec
public import Idealize.ShloMosaic.Lib.IdealHost

@[expose] public section

set_option maxRecDepth 16384
set_option maxHeartbeats 1000000

noncomputable section

namespace Cert.Ffn

open Cert.ReferenceIdeal Cert.ReferenceIdeal.Gen Cert.ReferenceIdeal.Read Idealize.ShloMosaic Idealize.ShloMosaic.TcCoe

/-- The input's row at batch entry `b` and time `T`, normalised, times the first weights. -/
def upAt (x0 : Vec Ideal S8x2064x1024 .f32) (x1 : Vec Ideal S1x1024 .f32) (x2 : Vec Ideal S1x1024x5632 .f32) (b : Fin 8) (T : Fin 2064) :
    Fin 5632 → EReal :=
  upRow (fun d => x1 (ix2 0 d)) (fun d j => x2 (ix3 0 d j)) (fun d => x0 (ix3 b T d))

/-- The layer's result at batch entry `b` and time `t` after the first sixteen times. -/
def layer (x0 : Vec Ideal S8x2064x1024 .f32) (x1 : Vec Ideal S1x1024 .f32) (x2 : Vec Ideal S1x1024x5632 .f32) (x3 : Vec Ideal S1x3x5632 .f32)
    (x4 : Vec Ideal S1x5632 .f32) (x5 : Vec Ideal S1x2816x1024 .f32) (x6 : Vec Ideal S1024 .f32) (b : Fin 8) (t : Fin 2048) : Fin 1024 → EReal :=
  nrm (fun d => x6 (ix1 d)) (ffnRow (fun f d => x5 (ix3 0 f d)) (fun d => x0 (ix3 b ⟨16 + t.val, by omega⟩ d))
    (conv (fun k j => x3 (ix3 0 k j)) (fun j => x4 (ix2 0 j)) (upAt x0 x1 x2 b ⟨14 + t.val, by omega⟩) (upAt x0 x1 x2 b ⟨15 + t.val, by omega⟩)
      (upAt x0 x1 x2 b ⟨16 + t.val, by omega⟩)))

variable (x0 : Vec Ideal S8x2064x1024 .f32) (x1 : Vec Ideal S1x1024 .f32) (x2 : Vec Ideal S1x1024x5632 .f32) (x3 : Vec Ideal S1x3x5632 .f32)
  (x4 : Vec Ideal S1x5632 .f32) (x5 : Vec Ideal S1x2816x1024 .f32) (x6 : Vec Ideal S1024 .f32)

/-- The first normalisation. -/
theorem ref_v13 (b : Fin 8) (T : Fin 2064) (d : Fin 1024) :
    val_main_v13 (F := Ideal) x0 x1 (ix3 b T d) = nrm (fun d => x1 (ix2 0 d)) (fun d => x0 (ix3 b T d)) d := by
  have e2 : ∀ k, idx_main_v2 (idx_main_v3 (idx_main_v9 (ix3 b T d))) k = ix3 b T k := fun k => funext fun a => by fin_cases a <;> rfl
  have e0 : idx_main_v0 (idx_main_v11 (idx_main_v12 (ix3 b T d))) = ix2 0 d := funext fun a => by
    fin_cases a
    · rfl
    · exact Fin.ext (Nat.mod_eq_of_lt d.isLt)
  simp only [val_main_v13_apply, val_main_v12_apply, val_main_v11_apply, val_main_v10_apply, val_main_v9_apply, val_main_v8_apply,
    val_main_v7_apply, val_main_v6_apply, val_main_v5_apply, val_main_v4_apply, val_main_v3_apply, val_main_v2_apply, val_main_v1_apply,
    val_main_v0_apply, val_main_cst_apply, val_main_cst_0_apply, val_main_cst_1_apply, e2, e0]
  unfold nrm rstd
  rw [show ((FloatOps.ofBits .f32 0x00000000#32 : Ideal .f32) : EReal) = 0 from Ideal.ofBits_zero_f32, zero_add]
  rfl

/-- The product with the first weights. -/
theorem ref_v15 (b : Fin 8) (T : Fin 2064) (j : Fin 5632) :
    val_main_v15 (F := Ideal) x0 x1 x2 (ix3 b T j) = upAt x0 x1 x2 b T j := by
  rw [val_main_v15_apply]
  unfold upAt upRow
  refine Finset.sum_congr rfl fun k _ => ?_
  have el : lidx_main_v15 (ix3 b T j) k = ix3 b T k := funext fun a => by fin_cases a <;> rfl
  have er : idx_main_v14 (ridx_main_v15 (ix3 b T j) k) = ix3 0 k j := funext fun a => by
    have := k.isLt
    have := j.isLt
    fin_cases a
    · rfl
    · refine Fin.ext ?_; show (k.val * 5632 + j.val) / 5632 % 1024 = k.val; omega
    · refine Fin.ext ?_; show (k.val * 5632 + j.val) % 5632 = j.val; omega
  rw [el, ref_v13, val_main_v14_apply, er]

/-- The padded rows: two steps later than the rows. -/
theorem ref_v18 (b : Fin 8) (T : Fin 2064) (j : Fin 5632) :
    val_main_v18 (F := Ideal) x0 x1 x2 (ix3 b (⟨2 + T.val, by omega⟩ : Fin 2066) j) = upAt x0 x1 x2 b T j := by
  rw [← ref_v15]
  unfold val_main_v18 pad
  have hT := T.isLt
  have hb := b.isLt
  have hj := j.isLt
  rw [dif_pos]
  · refine congrArg (val_main_v15 (F := Ideal) x0 x1 x2) (funext fun a => ?_)
    fin_cases a
    · refine Fin.ext ?_; show (b.val - 0) / 1 = b.val; omega
    · refine Fin.ext ?_; show (2 + T.val - 2) / 1 = T.val; omega
    · refine Fin.ext ?_; show (j.val - 0) / 1 = j.val; omega
  · intro a
    fin_cases a
    · show 0 ≤ b.val ∧ (b.val - 0) % 1 = 0 ∧ (b.val - 0) / 1 < 8; omega
    · show 2 ≤ 2 + T.val ∧ (2 + T.val - 2) % 1 = 0 ∧ (2 + T.val - 2) / 1 < 2064; omega
    · show 0 ≤ j.val ∧ (j.val - 0) % 1 = 0 ∧ (j.val - 0) / 1 < 5632; omega

/-- The convolution with its bias. -/
theorem ref_v41 (b : Fin 8) (t : Fin 2048) (j : Fin 5632) :
    val_main_v41 (F := Ideal) x0 x1 x2 x3 x4 (ix3 b (⟨16 + t.val, by omega⟩ : Fin 2064) j)
      = conv (fun k j => x3 (ix3 0 k j)) (fun j => x4 (ix2 0 j)) (upAt x0 x1 x2 b ⟨14 + t.val, by omega⟩) (upAt x0 x1 x2 b ⟨15 + t.val, by omega⟩)
      (upAt x0 x1 x2 b ⟨16 + t.val, by omega⟩) j := by
  have ht := t.isLt
  have hj := j.isLt
  have e1 : idx_main_v21 (ix3 b (⟨16 + t.val, by omega⟩ : Fin 2064) j) = ix3 b (⟨2 + (⟨14 + t.val, by omega⟩ : Fin 2064).val, by show 2 + (14 + t.val) < 2066; omega⟩ : Fin 2066) j :=
    funext fun a => by fin_cases a <;> refine Fin.ext ?_ <;> simp [idx_main_v21, ix3] <;> omega
  have e2 : idx_main_v27 (ix3 b (⟨16 + t.val, by omega⟩ : Fin 2064) j) = ix3 b (⟨2 + (⟨15 + t.val, by omega⟩ : Fin 2064).val, by show 2 + (15 + t.val) < 2066; omega⟩ : Fin 2066) j :=
    funext fun a => by fin_cases a <;> refine Fin.ext ?_ <;> simp [idx_main_v27, ix3] <;> omega
  have e3 : idx_main_v34 (ix3 b (⟨16 + t.val, by omega⟩ : Fin 2064) j) = ix3 b (⟨2 + (⟨16 + t.val, by omega⟩ : Fin 2064).val, by show 2 + (16 + t.val) < 2066; omega⟩ : Fin 2066) j :=
    funext fun a => by fin_cases a <;> refine Fin.ext ?_ <;> simp [idx_main_v34, ix3] <;> omega
  have f1 : idx_main_v16 (idx_main_v19 (idx_main_v20 (idx_main_v22 (idx_main_v23 (ix3 b (⟨16 + t.val, by omega⟩ : Fin 2064) j))))) = ix3 0 0 j :=
    funext fun a => by fin_cases a <;> refine Fin.ext ?_ <;> simp [idx_main_v16, idx_main_v19, idx_main_v20, idx_main_v22, idx_main_v23, ix3] <;> omega
  have f2 : idx_main_v16 (idx_main_v25 (idx_main_v26 (idx_main_v28 (idx_main_v29 (ix3 b (⟨16 + t.val, by omega⟩ : Fin 2064) j))))) = ix3 0 1 j :=
    funext fun a => by fin_cases a <;> refine Fin.ext ?_ <;> simp [idx_main_v16, idx_main_v25, idx_main_v26, idx_main_v28, idx_main_v29, ix3] <;> omega
  have f3 : idx_main_v16 (idx_main_v32 (idx_main_v33 (idx_main_v35 (idx_main_v36 (ix3 b (⟨16 + t.val, by omega⟩ : Fin 2064) j))))) = ix3 0 2 j :=
    funext fun a => by fin_cases a <;> refine Fin.ext ?_ <;> simp [idx_main_v16, idx_main_v32, idx_main_v33, idx_main_v35, idx_main_v36, ix3] <;> omega
  have f4 : idx_main_v17 (idx_main_v39 (idx_main_v40 (ix3 b (⟨16 + t.val, by omega⟩ : Fin 2064) j))) = ix2 0 j :=
    funext fun a => by fin_cases a <;> refine Fin.ext ?_ <;> simp [idx_main_v17, idx_main_v39, idx_main_v40, ix3, ix2] <;> omega
  simp only [val_main_v41_apply, val_main_v40_apply, val_main_v39_apply, val_main_v38_apply, val_main_v37_apply, val_main_v36_apply,
    val_main_v35_apply, val_main_v34_apply, val_main_v33_apply, val_main_v32_apply, val_main_v31_apply, val_main_v30_apply,
    val_main_v29_apply, val_main_v28_apply, val_main_v27_apply, val_main_v26_apply, val_main_v25_apply, val_main_v24_apply,
    val_main_v23_apply, val_main_v22_apply, val_main_v21_apply, val_main_v20_apply, val_main_v19_apply, val_main_v17_apply,
    val_main_v16_apply, f1, f2, f3, f4]
  rw [e1, e2, e3, ref_v18, ref_v18, ref_v18]
  rfl

/-- The gated half. -/
theorem ref_v45 (b : Fin 8) (t : Fin 2048) (f : Fin 2816) :
    val_main_v45 (F := Ideal) x0 x1 x2 x3 x4 (ix3 b (⟨16 + t.val, by omega⟩ : Fin 2064) f)
      = act (fun j => val_main_v41 (F := Ideal) x0 x1 x2 x3 x4 (ix3 b (⟨16 + t.val, by omega⟩ : Fin 2064) j)) f := by
  have e1 : idx_main_v42 (ix3 b (⟨16 + t.val, by omega⟩ : Fin 2064) f) = ix3 b (⟨16 + t.val, by omega⟩ : Fin 2064) (⟨f.val, by omega⟩ : Fin 5632) :=
    funext fun a => by fin_cases a <;> rfl
  have e2 : idx_main_v43 (ix3 b (⟨16 + t.val, by omega⟩ : Fin 2064) f) = ix3 b (⟨16 + t.val, by omega⟩ : Fin 2064) (⟨2816 + f.val, by omega⟩ : Fin 5632) :=
    funext fun a => by fin_cases a <;> refine Fin.ext ?_ <;> simp [idx_main_v43, ix3] <;> omega
  simp only [val_main_v45_apply, val_main_v44_apply, val_main_v43_apply, val_main_v42_apply, val_main_call1_v5_apply, val_main_call1_v4_apply,
    val_main_call1_v3_apply, val_main_call1_v2_apply, val_main_call1_v1_apply, val_main_call1_v0_apply, val_main_call1_cst_apply,
    val_main_call1_cst_0_apply, e1, e2]
  rw [show ((FloatOps.ofBits .f32 0x3F800000#32 : Ideal .f32) : EReal) = 1 from Ideal.ofBits_one_f32]
  rfl

/-- The row plus its gated half times the second weights. -/
theorem ref_v48 (b : Fin 8) (t : Fin 2048) (d : Fin 1024) :
    val_main_v48 (F := Ideal) x0 x1 x2 x3 x4 x5 (ix3 b (⟨16 + t.val, by omega⟩ : Fin 2064) d)
      = ffnRow (fun f d => x5 (ix3 0 f d)) (fun d => x0 (ix3 b ⟨16 + t.val, by omega⟩ d))
          (conv (fun k j => x3 (ix3 0 k j)) (fun j => x4 (ix2 0 j)) (upAt x0 x1 x2 b ⟨14 + t.val, by omega⟩) (upAt x0 x1 x2 b ⟨15 + t.val, by omega⟩)
            (upAt x0 x1 x2 b ⟨16 + t.val, by omega⟩)) d := by
  rw [val_main_v48_apply, val_main_v47_apply]
  unfold ffnRow
  refine congrArg (x0 _ + ·) (Finset.sum_congr rfl fun k _ => ?_)
  have el : lidx_main_v47 (ix3 b (⟨16 + t.val, by omega⟩ : Fin 2064) d) k = ix3 b (⟨16 + t.val, by omega⟩ : Fin 2064) k := funext fun a => by fin_cases a <;> rfl
  have er : idx_main_v46 (ridx_main_v47 (ix3 b (⟨16 + t.val, by omega⟩ : Fin 2064) d) k) = ix3 0 k d := funext fun a => by
    have := k.isLt
    have := d.isLt
    fin_cases a
    · rfl
    · refine Fin.ext ?_; show (k.val * 1024 + d.val) / 1024 % 2816 = k.val; omega
    · refine Fin.ext ?_; show (k.val * 1024 + d.val) % 1024 = d.val; omega
  rw [el, ref_v45, val_main_v46_apply, er]
  simp only [ref_v41]

/-- The reference's result at an index. -/
theorem ref_at (b : Fin 8) (t : Fin 2048) (d : Fin 1024) :
    val_main_v62 (F := Ideal) x0 x1 x2 x3 x4 x5 x6 (ix3 b t d) = layer x0 x1 x2 x3 x4 x5 x6 b t d := by
  have e62 : idx_main_v62 (ix3 b t d) = ix3 b (⟨16 + t.val, by omega⟩ : Fin 2064) d :=
    funext fun a => by fin_cases a <;> refine Fin.ext ?_ <;> simp [idx_main_v62, ix3] <;> omega
  have e2 : ∀ k, idx_main_v50 (idx_main_v51 (idx_main_v57 (ix3 b (⟨16 + t.val, by omega⟩ : Fin 2064) d))) k = ix3 b (⟨16 + t.val, by omega⟩ : Fin 2064) k :=
    fun k => funext fun a => by fin_cases a <;> rfl
  have e0 : idx_main_v59 (idx_main_v60 (ix3 b (⟨16 + t.val, by omega⟩ : Fin 2064) d)) = ix1 d := funext fun a => by fin_cases a <;> rfl
  rw [val_main_v62_apply, e62]
  simp only [val_main_v61_apply, val_main_v60_apply, val_main_v59_apply, val_main_v58_apply, val_main_v57_apply, val_main_v56_apply,
    val_main_v55_apply, val_main_v54_apply, val_main_v53_apply, val_main_v52_apply, val_main_v51_apply, val_main_v50_apply, val_main_v49_apply,
    val_main_cst_2_apply, val_main_cst_3_apply, val_main_cst_4_apply, e2, e0, ref_v48]
  unfold layer nrm rstd
  rw [show ((FloatOps.ofBits .f32 0x00000000#32 : Ideal .f32) : EReal) = 0 from Ideal.ofBits_zero_f32, zero_add]
  rfl

end Cert.Ffn

end

end
-- ==== Proof.Ffn.Points.lean ====
/- What the scratch and the output's block hold after each grid point, from the launch arrays. -/
module

public import proofs.«01_k».proof.Proof.Ffn.Frame
public import proofs.«01_k».proof.Proof.Ffn.ValueA
public import proofs.«01_k».proof.Proof.Ffn.ValueB
public import proofs.«01_k».proof.Proof.Ffn.ValueC
public import proofs.«01_k».proof.Proof.Ffn.Host
public import proofs.«01_k».proof.Proof.Ffn.Ref

@[expose] public section

set_option maxRecDepth 16384
set_option maxHeartbeats 1000000

noncomputable section

namespace Cert.Ffn

open Cert.KernelIdeal Cert.KernelIdeal.Gen Idealize.ShloMosaic Idealize.ShloMosaic.TcCoe Idealize.SL.Sem

variable (m : (ℓ : Loc nD τ sig) → Buf (Elt Ideal) ℓ) (c : Dev nD)

/-- The launch arrays. -/
abbrev in0 : Vec Ideal S8x2064x1024 .f32 := m ((c : Thread nD τ).loc main_arg0)
abbrev in1 : Vec Ideal S1x1024 .f32 := m ((c : Thread nD τ).loc main_arg1)
abbrev in2 : Vec Ideal S1x1024x5632 .f32 := m ((c : Thread nD τ).loc main_arg2)
abbrev in3 : Vec Ideal S1x3x5632 .f32 := m ((c : Thread nD τ).loc main_arg3)
abbrev in4 : Vec Ideal S1x5632 .f32 := m ((c : Thread nD τ).loc main_arg4)
abbrev in5 : Vec Ideal S1x2816x1024 .f32 := m ((c : Thread nD τ).loc main_arg5)
abbrev in6 : Vec Ideal S1024 .f32 := m ((c : Thread nD τ).loc main_arg6)

/-- The rows' product with the first weights, at batch entry `q % 8` and time `T`; zero past the last time. -/
def upq (q T : ℕ) : Fin 5632 → EReal :=
  if h : T < 2064 then upAt (in0 m c) (in1 m c) (in2 m c) ⟨q % 8, Nat.mod_lt _ (by omega)⟩ ⟨T, h⟩ else fun _ => 0

/-- The layer's row before the last normalisation, at batch entry `r % 8` and time `16 + t`. -/
def rowAt (r t : ℕ) : Fin 1024 → EReal :=
  if h : t < 2048 then
    ffnRow (fun f d => in5 m c (ix3 0 f d)) (fun d => in0 m c (ix3 ⟨r % 8, Nat.mod_lt _ (by omega)⟩ ⟨16 + t, by omega⟩ d))
      (conv (fun k j => in3 m c (ix3 0 k j)) (fun j => in4 m c (ix2 0 j)) (upq m c r (14 + t)) (upq m c r (15 + t)) (upq m c r (16 + t)))
  else fun _ => 0

/-- The kept first weights are the launch array's. -/
theorem wUp_at (k : Fin 1024) (j : Fin 5632) : wUp (F := Ideal) c (V m c main_v8) (ix2 k j) = in2 m c (ix3 0 k j) :=
  v8_at m c k j

/-- The kept second weights are the launch array's. -/
theorem wDown_at (f : Fin 2816) (d : Fin 1024) : wDown (F := Ideal) c (V m c main_v12) (ix2 f d) = in5 m c (ix3 0 f d) :=
  v12_at m c f d

theorem wUp_all : (fun k j => wUp (F := Ideal) c (V m c main_v8) (ix2 k j)) = fun k j => in2 m c (ix3 0 k j) :=
  funext fun k => funext fun j => wUp_at m c k j

theorem wDown_all : (fun f d => wDown (F := Ideal) c (V m c main_v12) (ix2 f d)) = fun f d => in5 m c (ix3 0 f d) :=
  funext fun f => funext fun d => wDown_at m c f d

/-- A staged row's product with the first weights, in the first block, -/
theorem up_lo (t : Fin cfg0.N) (r : Fin 512) (h : min t.val 32 = 0) (hr : r.val < 128) :
    upRow (fun d => (iblk m c 1 t : Vec Ideal S1x1024 .f32) (ix2 0 d)) (fun d j => wUp (F := Ideal) c (V m c main_v8) (ix2 d j))
      (fun d => (iblk m c 0 t : Vec Ideal S512x1024 .f32) (ix2 r d)) = upq m c r.val (r.val / 8) := by
  unfold upq upAt
  rw [dif_pos (by omega)]
  simp only [iblk1_at, iblk0_at m c t r _ (⟨r.val, by omega⟩ : Fin 16896) (by show r.val = _; omega),
    v5_lo m c (⟨r.val, by omega⟩ : Fin 16896) _ hr]
  exact congrArg (fun W : Fin 1024 → Fin 5632 → EReal => upRow (fun d => in1 m c (ix2 0 d)) W _) (wUp_all m c)

/-- and in a later one. -/
theorem up_hi (t : Fin cfg0.N) (n : ℕ) (r : Fin 512) (h : min t.val 32 = n + 1) :
    upRow (fun d => (iblk m c 1 t : Vec Ideal S1x1024 .f32) (ix2 0 d)) (fun d j => wUp (F := Ideal) c (V m c main_v8) (ix2 d j))
      (fun d => (iblk m c 0 t : Vec Ideal S512x1024 .f32) (ix2 r d)) = upq m c r.val (16 + 64 * n + r.val / 8) := by
  have hr := r.isLt
  unfold upq upAt
  rw [dif_pos (by omega)]
  simp only [iblk1_at, iblk0_at m c t r _ (⟨512 * (n + 1) + r.val, by omega⟩ : Fin 16896) (by show 512 * (n + 1) + r.val = _; omega),
    v5_hi m c (⟨512 * (n + 1) + r.val, by omega⟩ : Fin 16896) _ (by show 512 ≤ 512 * (n + 1) + r.val; omega)]
  congr 1
  · exact wUp_all m c
  funext d
  refine congrArg _ (congrArg₂ (fun a b => ix3 a b d) (Fin.ext ?_) (Fin.ext ?_))
  · show (512 * (n + 1) + r.val - 384) % 8 = r.val % 8; omega
  · show (512 * (n + 1) + r.val - 384) / 8 = 16 + 64 * n + r.val / 8; omega

/-- A staged row itself. -/
theorem x_hi (t : Fin cfg0.N) (n : ℕ) (r : Fin 512) (h : min t.val 32 = n + 1) (d : Fin 1024) :
    (iblk m c 0 t : Vec Ideal S512x1024 .f32) (ix2 r d)
      = in0 m c (ix3 ⟨r.val % 8, Nat.mod_lt _ (by omega)⟩ ⟨16 + (64 * n + r.val / 8), by have := r.isLt; omega⟩ d) := by
  have hr := r.isLt
  rw [iblk0_at m c t r d (⟨512 * (n + 1) + r.val, by omega⟩ : Fin 16896) (by show 512 * (n + 1) + r.val = _; omega),
    v5_hi m c (⟨512 * (n + 1) + r.val, by omega⟩ : Fin 16896) _ (by show 512 ≤ 512 * (n + 1) + r.val; omega)]
  refine congrArg _ (congrArg₂ (fun a b => ix3 a b d) (Fin.ext ?_) (Fin.ext ?_))
  · show (512 * (n + 1) + r.val - 384) % 8 = r.val % 8; omega
  · show (512 * (n + 1) + r.val - 384) / 8 = 16 + (64 * n + r.val / 8); omega

/-- After point `n` the carried rows are the products of the last two times of block `n`. -/
def Carried (n : ℕ) (C : Vec Ideal S16x5632 .f32) : Prop := ∀ (q : Fin 16) (j : Fin 5632), C (ix2 q j) = upq m c q.val (14 + 64 * n + q.val / 8) j

/-- After point `n + 1` the pending rows are the layer's rows of block `n + 1`. -/
def Pending (n : ℕ) (P : Vec Ideal S512x1024 .f32) : Prop := ∀ (r : Fin 512) (d : Fin 1024), P (ix2 r d) = rowAt m c r.val (64 * n + r.val / 8) d

/-- The carried rows and a block's own, together, are consecutive times. -/
theorem ext_at (t : Fin cfg0.N) (n : ℕ) (h : min t.val 32 = n + 1) (C : Vec Ideal S16x5632 .f32) (hC : Carried m c n C) (q : ℕ) (hq : q < 528) :
    ext (rows fun q j => C (ix2 q j))
      (rows fun r => upRow (fun d => (iblk m c 1 t : Vec Ideal S1x1024 .f32) (ix2 0 d)) (fun d j => wUp (F := Ideal) c (V m c main_v8) (ix2 d j))
        (fun d => (iblk m c 0 t : Vec Ideal S512x1024 .f32) (ix2 r d))) q = upq m c q (14 + 64 * n + q / 8) := by
  funext j
  unfold ext
  by_cases h16 : q < 16
  · rw [if_pos h16, rows_of_lt _ h16]
    exact hC ⟨q, h16⟩ j
  · rw [if_neg h16, rows_of_lt _ (by omega), up_hi m c t n _ h]
    have e : 16 + 64 * n + (q - 16) / 8 = 14 + 64 * n + q / 8 := by omega
    show upq m c (q - 16) (16 + 64 * n + (q - 16) / 8) j = _
    rw [e]
    unfold upq
    have e8 : (q - 16) % 8 = q % 8 := by omega
    simp only [e8]

/-- The pending block of point `n + 1`. -/
theorem pend_at (t : Fin cfg0.N) (n : ℕ) (h : min t.val 32 = n + 1) (C : Vec Ideal S16x5632 .f32) (hC : Carried m c n C) :
    Pending m c n (pendOf (iblk m c 0 t) (iblk m c 1 t) (iblk m c 2 t) (iblk m c 3 t) C (wUp (F := Ideal) c (V m c main_v8)) (wDown (F := Ideal) c (V m c main_v12))) := by
  intro r d
  have hr := r.isLt
  unfold rowAt
  rw [dif_pos (by omega)]
  show ffnRow _ (fun d => (iblk m c 0 t : Vec Ideal S512x1024 .f32) (ix2 r d)) (convOf _ _ _ _ _ _ r.val) d = _
  unfold convOf convBlock
  rw [ext_at m c t n h C hC r.val (by omega), ext_at m c t n h C hC (8 + r.val) (by omega), ext_at m c t n h C hC (16 + r.val) (by omega)]
  have e1 : upq m c (8 + r.val) (14 + 64 * n + (8 + r.val) / 8) = upq m c r.val (15 + (64 * n + r.val / 8)) := by
    have e : 14 + 64 * n + (8 + r.val) / 8 = 15 + (64 * n + r.val / 8) := by omega
    have e8 : (8 + r.val) % 8 = r.val % 8 := by omega
    unfold upq; simp only [e, e8]
  have e2 : upq m c (16 + r.val) (14 + 64 * n + (16 + r.val) / 8) = upq m c r.val (16 + (64 * n + r.val / 8)) := by
    have e : 14 + 64 * n + (16 + r.val) / 8 = 16 + (64 * n + r.val / 8) := by omega
    have e8 : (16 + r.val) % 8 = r.val % 8 := by omega
    unfold upq; simp only [e, e8]
  rw [e1, e2, Nat.add_assoc 14 (64 * n) (r.val / 8)]
  simp only [x_hi m c t n r h, iblk2_at, iblk3_at]
  exact congrArg (fun W : Fin 2816 → Fin 1024 → EReal => ffnRow W _ _ d) (wDown_all m c)

/-- The carried rows after point `n + 1`. -/
theorem carry_at (t : Fin cfg0.N) (n : ℕ) (h : min t.val 32 = n + 1) :
    Carried m c (n + 1) (carryOf (iblk m c 0 t) (iblk m c 1 t) (wUp (F := Ideal) c (V m c main_v8))) := by
  intro q j
  have hq := q.isLt
  refine (congrFun (up_hi m c t n ⟨496 + q.val, by omega⟩ h) j).trans ?_
  show upq m c (496 + q.val) (16 + 64 * n + (496 + q.val) / 8) j = _
  have e : 16 + 64 * n + (496 + q.val) / 8 = 14 + 64 * (n + 1) + q.val / 8 := by omega
  have e8 : (496 + q.val) % 8 = q.val % 8 := by omega
  unfold upq; simp only [e, e8]

/-- What the scratch holds after point `n`, for `n` up to 32. -/
theorem scratch_at (n : ℕ) (hn : n < cfg0.N) (h32 : n ≤ 32) :
    Carried m c n (outsAt0 m c n hn).2.1
      ∧ (∀ k, n = k + 1 → Pending m c k (outsAt0 m c n hn).2.2.1)
      ∧ (outsAt0 m c n hn).2.2.2.1 = wUp (F := Ideal) c (V m c main_v8) ∧ (outsAt0 m c n hn).2.2.2.2 = wDown (F := Ideal) c (V m c main_v12) := by
  induction n with
  | zero =>
    have e := outsAt0_A m c ⟨0, hn⟩ rfl (by show ¬(1 ≤ 0 % 34 ∧ 0 % 34 ≤ 32); decide) (by show ¬0 % 34 = 33; decide)
    rw [show outsAt0 m c 0 hn = _ from e]
    refine ⟨?_, fun k hk => absurd hk (by omega), rfl, rfl⟩
    dsimp only
    rw [carryA]
    intro q j
    have hq := q.isLt
    refine (congrFun (up_lo m c ⟨0, hn⟩ ⟨112 + q.val, by omega⟩ rfl (by show 112 + q.val < 128; omega)) j).trans ?_
    show upq m c (112 + q.val) ((112 + q.val) / 8) j = _
    have e : (112 + q.val) / 8 = 14 + 64 * 0 + q.val / 8 := by omega
    have e8 : (112 + q.val) % 8 = q.val % 8 := by omega
    unfold upq; simp only [e, e8]
  | succ n ih =>
    obtain ⟨hC, -, h3, h4⟩ := ih (Nat.lt_of_succ_lt hn) (by omega)
    have hm : min (n + 1) 32 = n + 1 := by omega
    have e := outsAt0_B m c ⟨n + 1, hn⟩ (by show ¬(n + 1) % 34 = 0; omega) (by show 1 ≤ (n + 1) % 34 ∧ (n + 1) % 34 ≤ 32; omega) (by show ¬(n + 1) % 34 = 33; omega)
    rw [show outsAt0 m c (n + 1) hn = _ from e]
    have e3 : (outsAt0 m c ((⟨n + 1, hn⟩ : Fin cfg0.N).val - 1) (Nat.lt_of_le_of_lt (Nat.sub_le _ _) (⟨n + 1, hn⟩ : Fin cfg0.N).isLt)).2.2.2.1
        = wUp (F := Ideal) c (V m c main_v8) := h3
    have e4 : (outsAt0 m c ((⟨n + 1, hn⟩ : Fin cfg0.N).val - 1) (Nat.lt_of_le_of_lt (Nat.sub_le _ _) (⟨n + 1, hn⟩ : Fin cfg0.N).isLt)).2.2.2.2
        = wDown (F := Ideal) c (V m c main_v12) := h4
    dsimp only
    rw [carryB, pendB, e3, e4]
    refine ⟨carry_at m c ⟨n + 1, hn⟩ n hm, fun k hk => ?_, rfl, rfl⟩
    obtain rfl : n = k := by omega
    exact pend_at m c ⟨n + 1, hn⟩ n hm _ hC

/-- The pending rows divided by the root of their mean square are the layer's. -/
theorem out_of (n : ℕ) (hn : n < 32) (P : Vec Ideal S512x1024 .f32) (hP : Pending m c n P) (t : Fin cfg0.N) (b : Fin 8) (s : Fin 64) (d : Fin 1024) :
    outOf P (iblk m c 4 t) (ix3 b s d)
      = layer (in0 m c) (in1 m c) (in2 m c) (in3 m c) (in4 m c) (in5 m c) (in6 m c) b ⟨64 * n + s.val, by have := s.isLt; omega⟩ d := by
  have hs := s.isLt
  have hb := b.isLt
  have hrow : ∀ d, P (ix2 (⟨s.val * 8 + b.val, by omega⟩ : Fin 512) d) = rowAt m c b.val (64 * n + s.val) d := fun d => by
    rw [hP]
    show rowAt m c (s.val * 8 + b.val) (64 * n + (s.val * 8 + b.val) / 8) d = _
    have e : (s.val * 8 + b.val) / 8 = s.val := by omega
    have e8 : (s.val * 8 + b.val) % 8 = b.val % 8 := by omega
    unfold rowAt upq; simp only [e, e8]
  show nrm _ (fun d => P (ix2 (⟨s.val * 8 + b.val, _⟩ : Fin 512) d)) d = _
  simp only [hrow, iblk4_at]
  unfold layer rowAt upq
  have e8 : b.val % 8 = b.val := by omega
  simp only [e8]
  rw [dif_pos (by omega), dif_pos (by omega), dif_pos (by omega), dif_pos (by omega)]

/-- The output's block after point `n + 2`. -/
theorem out_at (n : ℕ) (hn : n + 2 < cfg0.N) (b : Fin 8) (s : Fin 64) (d : Fin 1024) (hn' : n < 32) :
    (outsAt0 m c (n + 2) hn).1 (ix3 b s d)
      = layer (in0 m c) (in1 m c) (in2 m c) (in3 m c) (in4 m c) (in5 m c) (in6 m c) b ⟨64 * n + s.val, by have := s.isLt; omega⟩ d := by
  have hP := (scratch_at m c (n + 1) (Nat.lt_of_succ_lt hn) (by omega)).2.1 n rfl
  by_cases h : n + 2 = 33
  · have e := outsAt0_C m c ⟨n + 2, hn⟩ (by show ¬(n + 2) % 34 = 0; omega) (by show ¬(1 ≤ (n + 2) % 34 ∧ (n + 2) % 34 ≤ 32); omega) (by show (n + 2) % 34 = 33; omega)
    rw [show outsAt0 m c (n + 2) hn = _ from e]
    dsimp only
    rw [outC]
    exact out_of m c n hn' _ hP _ b s d
  · have e := outsAt0_B m c ⟨n + 2, hn⟩ (by show ¬(n + 2) % 34 = 0; omega) (by show 1 ≤ (n + 2) % 34 ∧ (n + 2) % 34 ≤ 32; omega) (by show ¬(n + 2) % 34 = 33; omega)
    rw [show outsAt0 m c (n + 2) hn = _ from e]
    dsimp only
    rw [outB]
    exact out_of m c n hn' _ hP _ b s d

end Cert.Ffn

end

end
-- ==== Proof.Ffn.Final.lean ====
/- The whole result array: the layer's value at every batch entry, time and feature; and the run, read. -/
module

public import proofs.«01_k».proof.Proof.Ffn.Points

@[expose] public section

set_option maxRecDepth 16384
set_option maxHeartbeats 1000000

noncomputable section

namespace Cert.Ffn

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- The result array: the layer's value of the launch arrays at every element. -/
def result : Buf (Elt Ideal) ((c : Thread nD τ).loc main_v14) := fun y =>
  layer (in0 m c) (in1 m c) (in2 m c) (in3 m c) (in4 m c) (in5 m c) (in6 m c) (y 0) (y 1) (y 2)

/-- The output's block is written back from point 2 on, -/
theorem flush_iff : ∀ t : Fin grid0.N, win0_5.flush t = true ↔ 2 ≤ t.val := by decide +kernel

/-- to time block `t - 2`. -/
theorem index5 : ∀ t : Fin grid0.N, win0_5.index t 0 = 0 ∧ win0_5.index t 1 = t.val - 2 ∧ win0_5.index t 2 = 0 := by decide +kernel

/-- No block of the output is cut. -/
theorem xsize5 : ∀ t : Fin grid0.N, win0_5.xsize (grid0.coords t) 0 = 8 ∧ win0_5.xsize (grid0.coords t) 1 = 64
    ∧ win0_5.xsize (grid0.coords t) 2 = 1024 := by decide +kernel

/-- Every write-back writes its block of the result. -/
theorem flushed_eq (t : Fin cfg0.N) (hf : (cfg0.win 5).flush t = true) :
    (dats m 0 c).flushed 5 t = ((cfg0.win 5).blk t).view.read (Elt Ideal) (result m c) := by
  have hN : cfg0.N = 34 := N_0
  have h2 : 2 ≤ t.val := (flush_iff t).mp hf
  obtain ⟨i0, i1, i2⟩ := index5 t
  obtain ⟨n, hn⟩ := t
  obtain ⟨n, rfl⟩ : ∃ k, n = k + 2 := ⟨n - 2, by simp only at h2; omega⟩
  show (cfg0.win 5).cut (grid0.coords ⟨n + 2, hn⟩) ((dats m 0 c).after 5 ⟨n + 2, hn⟩) = _
  rw [after0_5]
  funext y
  have y0 : (y 0).val < 8 := (y 0).isLt
  have y1 : (y 1).val < 64 := (y 1).isLt
  have y2 : (y 2).val < 1024 := (y 2).isLt
  rw [View.read_apply]
  have e : (cfg0.win 5).xinj (grid0.coords ⟨n + 2, hn⟩) y = ix3 (⟨(y 0).val, y0⟩ : Fin 8) (⟨(y 1).val, y1⟩ : Fin 64) (⟨(y 2).val, y2⟩ : Fin 1024) :=
    funext fun a => match a with | ⟨0, _⟩ => rfl | ⟨1, _⟩ => rfl | ⟨2, _⟩ => rfl
  rw [Pipeline.Window.cut_apply, e]
  refine (out_at m c n hn ⟨(y 0).val, y0⟩ ⟨(y 1).val, y1⟩ ⟨(y 2).val, y2⟩ (by omega)).trans ?_
  show _ = layer (in0 m c) (in1 m c) (in2 m c) (in3 m c) (in4 m c) (in5 m c) (in6 m c) _ _ _
  congr 1
  · apply Fin.ext
    show (y 0).val = win0_5.index ⟨n + 2, hn⟩ 0 * 8 + 1 * (y 0).val
    rw [i0]; omega
  · apply Fin.ext
    show 64 * n + (y 1).val = win0_5.index ⟨n + 2, hn⟩ 1 * 64 + 1 * (y 1).val
    rw [i1]; simp only; omega
  · apply Fin.ext
    show (y 2).val = win0_5.index ⟨n + 2, hn⟩ 2 * 1024 + 1 * (y 2).val
    rw [i2]; omega

/-- So the result array ends at `result`: time `i` is in the block that point `i / 64 + 2` writes back. -/
theorem final : (dats m 0 c).arrAt 5 cfg0.N = result m c :=
  (dats m 0 c).arrAt_eq_of_cover 5 (result m c) (flushed_eq m c) fun i => by
    have h0 : (i 0 : Nat) < 8 := (i 0).isLt
    have h1 : (i 1 : Nat) < 2048 := (i 1).isLt
    have h2 : (i 2 : Nat) < 1024 := (i 2).isLt
    have hN : cfg0.N = 34 := N_0
    have ht : (i 1 : Nat) / 64 + 2 < cfg0.N := by omega
    obtain ⟨i0, i1, i2⟩ := index5 ⟨(i 1 : Nat) / 64 + 2, ht⟩
    obtain ⟨x0, x1, x2⟩ := xsize5 ⟨(i 1 : Nat) / 64 + 2, ht⟩
    refine ⟨⟨(i 1 : Nat) / 64 + 2, ht⟩, (flush_iff _).mpr (by show 2 ≤ (i 1 : Nat) / 64 + 2; omega), ?_⟩
    show i ∈ ((View.whole main_v14).slice (win0_5.rect ⟨(i 1 : Nat) / 64 + 2, ht⟩)).set
    rw [View.set_slice_whole, Rect.mem_set_unit]
    intro a
    match a with
    | ⟨0, _⟩ => show win0_5.index ⟨(i 1 : Nat) / 64 + 2, ht⟩ 0 * 8 ≤ (i 0 : Nat) ∧ (i 0 : Nat) < win0_5.index ⟨(i 1 : Nat) / 64 + 2, ht⟩ 0 * 8 + win0_5.xsize (grid0.coords ⟨(i 1 : Nat) / 64 + 2, ht⟩) 0
                rw [i0, x0]; omega
    | ⟨1, _⟩ => show win0_5.index ⟨(i 1 : Nat) / 64 + 2, ht⟩ 1 * 64 ≤ (i 1 : Nat) ∧ (i 1 : Nat) < win0_5.index ⟨(i 1 : Nat) / 64 + 2, ht⟩ 1 * 64 + win0_5.xsize (grid0.coords ⟨(i 1 : Nat) / 64 + 2, ht⟩) 1
                rw [i1, x1]; simp only; omega
    | ⟨2, _⟩ => show win0_5.index ⟨(i 1 : Nat) / 64 + 2, ht⟩ 2 * 1024 ≤ (i 2 : Nat) ∧ (i 2 : Nat) < win0_5.index ⟨(i 1 : Nat) / 64 + 2, ht⟩ 2 * 1024 + win0_5.xsize (grid0.coords ⟨(i 1 : Nat) / 64 + 2, ht⟩) 2
                rw [i2, x2]; omega

/-- The run, read: the result array at the layer's value. -/
theorem run_result : θ_run defs (onTc (τ := τ) (main (F := Ideal))) ⟨m, fun _ => 0, ρ⟩ fun r => ∀ c : Dev nD,
      r.2.mem ((c : Thread nD τ).loc main_v14) = result m c :=
  (θ_run defs _ _).mono (fun _ h c => ((h c).1 5).trans (final m c)) (run_main m ρ)

end Cert.Ffn

end

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Ffn.Final
public import Idealize.ShloMosaic.Adequacy
public import Idealize.ShloMosaic.Init

@[expose] public section

set_option maxRecDepth 100000

noncomputable section

namespace Cert.Proof

open Idealize.ShloMosaic Idealize.SL.Sem

local instance : Cert.Kernel.Facts := Cert.Kernel.Gen.facts
local instance : Cert.KernelIdeal.Facts := Cert.KernelIdeal.Gen.facts

/-- The printed kernel's body is the idealization's. -/
theorem body_same : Cert.Kernel.cc0_ffn (F := Bits) = Cert.KernelIdeal.cc0_ffn (F := Bits) := rfl

/-- So are the bodies its regions call, -/
theorem calls_same : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => dsimp only; rw [body_same]; rfl

/-- and the pipelined calls. -/
theorem defs_same : Cert.Kernel.defs (F := Bits) = Cert.KernelIdeal.defs (F := Bits) :=
  congrArg (Pipeline.defs (Cert.Kernel.pcfgs (F := Bits))) calls_same

/-- The printed kernel's frame: its text is the idealization's, so the idealization's run at the machine's floats. -/
theorem frame_kernel : Cert.quiescent_Kernel := fun m ρ _ => by
  rw [defs_same]
  exact Cert.KernelIdeal.Gen.frame (F := Bits) m ρ

/-- The idealized kernel's frame. -/
theorem frame_ideal : Cert.quiescent_KernelIdeal := fun m ρ _ => Cert.KernelIdeal.Gen.frame (F := Ideal) m ρ

/-- The reference's frame: no operation writes an argument, and the program declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel's result is the reference's, on the extended reals: both are `Cert.Ffn.layer` of the arguments. -/
theorem equal : Cert.algebraic_KernelIdeal_ReferenceIdeal := by
  intro m ρ m' ρ' _ agree
  refine ⟨fun c => Cert.Ffn.result m c,
    (θ_run Cert.KernelIdeal.defs _ _).mono (fun _ h c => ⟨h.1 c, h.2 c⟩)
      (θ_run_and (Cert.Ffn.run_result m ρ) (Cert.KernelIdeal.Gen.unchanged m ρ)),
    (θ_run Cert.ReferenceIdeal.defs _ _).mono (fun _ h c => ⟨(h c).1.trans ?_, (h c).2⟩)
      (Cert.ReferenceIdeal.Value.run (F := Ideal) m' ρ')⟩
  obtain ⟨a0, a1, a2, a3, a4, a5, a6⟩ := agree c
  rw [Cert.ReferenceIdeal.Read.val_main_v62_eq m' c, a0, a1, a2, a3, a4, a5, a6]
  funext y
  rw [show y = ix3 (y 0) (y 1) (y 2) from by funext a; match a with | ⟨0, _⟩ => rfl | ⟨1, _⟩ => rfl | ⟨2, _⟩ => rfl]
  exact Cert.Ffn.ref_at _ _ _ _ _ _ _ (y 0) (y 1) (y 2)

/-- Every claim of the certificate. -/
theorem claim : Cert.Claim := ⟨Cert.Kernel.Gen.facts, Cert.KernelIdeal.Gen.facts, Cert.ReferenceIdeal.Gen.facts,
  frame_kernel, frame_ideal, frame_reference, trivial, equal⟩

end Cert.Proof

end

end
